-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S4x1024x32x128 : S_.BroadcastsInDim S4x1024x32x128 (![] : Fin 0 → Fin S4x1024x32x128.rank)

variable [Facts]

def fn {F : FTy → Type} [FloatOps F] (main_arg0 : FVec F S1x1024x1024 .bf16) (main_arg1 : FVec F S1024x1024 .bf16) (main_arg2 : FVec F S4x1024x32x128 .bf16) (main_arg3 : FVec F S4x1024x32x128 .bf16) (main_arg4 : FVec F S1024x1024 .bf16) : IVec S1x1024x1024 1 × IVec S1024x1024 1 × IVec S4x1024x32x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S4x1024x32x128 .bf16 := Host.absf main_arg2
  let main_cst_1 : FVec F S_ .bf16 := constant S_ .bf16 0x7F80#16
  let main_v7 : FVec F S4x1024x32x128 .bf16 := broadcastInDim S4x1024x32x128 ![] bcast_S_S4x1024x32x128 main_cst_1
  let main_v8 : IVec S4x1024x32x128 1 := cmpf .olt main_v6 main_v7
  (main_v2, main_v5, main_v8)
-- ==== Pre_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  bcast_S_S1024x4096 : S_.BroadcastsInDim S1024x4096 (![] : Fin 0 → Fin S1024x4096.rank)
  bcast_S_S4x1024x32x128 : S_.BroadcastsInDim S4x1024x32x128 (![] : Fin 0 → Fin S4x1024x32x128.rank)

variable [Facts]

def fn {F : FTy → Type} [FloatOps F] (main_arg0 : FVec F S4x1024x1024 .bf16) (main_arg1 : FVec F S1024x4096 .bf16) (main_arg2 : FVec F S4x1024x32x128 .bf16) (main_arg3 : FVec F S4x1024x32x128 .bf16) (main_arg4 : FVec F S4096x1024 .bf16) : IVec S4x1024x1024 1 × IVec S1024x4096 1 × IVec S4x1024x32x128 1 :=
  let main_v0 : FVec F S4x1024x1024 .bf16 := Host.absf main_arg0
  let main_cst : FVec F S_ .bf16 := constant S_ .bf16 0x7F80#16
  let main_v1 : FVec F S4x1024x1024 .bf16 := broadcastInDim S4x1024x1024 ![] bcast_S_S4x1024x1024 main_cst
  let main_v2 : IVec S4x1024x1024 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S4x1024x32x128 .bf16 := Host.absf main_arg2
  let main_cst_1 : FVec F S_ .bf16 := constant S_ .bf16 0x7F80#16
  let main_v7 : FVec F S4x1024x32x128 .bf16 := broadcastInDim S4x1024x32x128 ![] bcast_S_S4x1024x32x128 main_cst_1
  let main_v8 : IVec S4x1024x32x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩
abbrev S1x1024x32x128 : Shape := ⟨4, ![1, 1024, 32, 128]⟩
abbrev S1024x32x128 : Shape := ⟨3, ![1024, 32, 128]⟩
abbrev S1024x4096 : Shape := ⟨2, ![1024, 4096]⟩
abbrev S4x4x64x4096 : Shape := ⟨4, ![4, 4, 64, 4096]⟩
abbrev S1024x4x1024 : Shape := ⟨3, ![1024, 4, 1024]⟩
abbrev S4x1024x1024 : Shape := ⟨3, ![4, 1024, 1024]⟩
abbrev S4x2048x1024 : Shape := ⟨3, ![4, 2048, 1024]⟩
abbrev S6 : Shape := ⟨1, ![6]⟩
abbrev S1 : Shape := ⟨1, ![1]⟩
abbrev S1x64x1024 : Shape := ⟨3, ![1, 64, 1024]⟩
abbrev S64x1024 : Shape := ⟨2, ![64, 1024]⟩
abbrev S1024x128 : Shape := ⟨2, ![1024, 128]⟩
abbrev S4x256x128 : Shape := ⟨3, ![4, 256, 128]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 44
  | .vmem => 10
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S4x1024x32x128, .bf16⟩
  | .hbm, ⟨3, _⟩ => ⟨S4x1024x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x1024x32x128, .bf16⟩
  | .hbm, ⟨20, _⟩ => ⟨S1024x32x128, .bf16⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x1024x32x128, .bf16⟩
  | .hbm, ⟨30, _⟩ => ⟨S1024x32x128, .bf16⟩
  | .hbm, ⟨31, _⟩ => ⟨S1024x4096, .bf16⟩
  | .hbm, ⟨32, _⟩ => ⟨S4x4x64x4096, .bf16⟩
  | .hbm, ⟨33, _⟩ => ⟨S4x4x64x4096, .bf16⟩
  | .hbm, ⟨34, _⟩ => ⟨S1024x4096, .bf16⟩
  | .hbm, ⟨35, _⟩ => ⟨S1024x4096, .bf16⟩
  | .hbm, ⟨36, _⟩ => ⟨S4x4x64x4096, .bf16⟩
  | .hbm, ⟨37, _⟩ => ⟨S4x4x64x4096, .bf16⟩
  | .hbm, ⟨38, _⟩ => ⟨S1024x4096, .bf16⟩
  | .hbm, ⟨39, _⟩ => ⟨S1024x4x1024, .bf16⟩
  | .hbm, ⟨40, _⟩ => ⟨S4x1024x1024, .bf16⟩
  | .hbm, ⟨41, _⟩ => ⟨S1024x4x1024, .bf16⟩
  | .hbm, ⟨42, _⟩ => ⟨S4x1024x1024, .bf16⟩
  | .hbm, ⟨43, _⟩ => ⟨S1x1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4x1024x1024, .bf16⟩
  | .local _ .vmem, ⟨4, _⟩ => ⟨S4x1024x1024, .bf16⟩
  | .local _ .vmem, ⟨5, _⟩ => ⟨S1x1024x1024, .bf16⟩
  | .local _ .vmem, ⟨6, _⟩ => ⟨S4x2048x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_c_0 : Ref sig .tc := ⟨.hbm, 13, rfl⟩
abbrev main_call0_v1 : Ref sig .tc := ⟨.hbm, 14, rfl⟩
abbrev main_call0_v2 : Ref sig .tc := ⟨.hbm, 15, rfl⟩
abbrev main_call0_c_1 : Ref sig .tc := ⟨.hbm, 16, rfl⟩
abbrev main_call0_c_2 : Ref sig .tc := ⟨.hbm, 17, rfl⟩
abbrev main_call0_c_3 : Ref sig .tc := ⟨.hbm, 18, rfl⟩
abbrev main_call0_v3 : Ref sig .tc := ⟨.hbm, 19, rfl⟩
abbrev main_v5 : Ref sig .tc := ⟨.hbm, 20, rfl⟩
abbrev main_call1_c : Ref sig .tc := ⟨.hbm, 21, rfl⟩
abbrev main_call1_v0 : Ref sig .tc := ⟨.hbm, 22, rfl⟩
abbrev main_call1_c_0 : Ref sig .tc := ⟨.hbm, 23, rfl⟩
abbrev main_call1_v1 : Ref sig .tc := ⟨.hbm, 24, rfl⟩
abbrev main_call1_v2 : Ref sig .tc := ⟨.hbm, 25, rfl⟩
abbrev main_call1_c_1 : Ref sig .tc := ⟨.hbm, 26, rfl⟩
abbrev main_call1_c_2 : Ref sig .tc := ⟨.hbm, 27, rfl⟩
abbrev main_call1_c_3 : Ref sig .tc := ⟨.hbm, 28, rfl⟩
abbrev main_call1_v3 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v18 : BitVec 32 := Scalar.muli v7 c1_i32_18
  let v19 : BitVec 32 := Scalar.addi c0_i32_19 v18
  v19.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_28 : BitVec 32 := 1#32
  let v28 : BitVec 32 := Scalar.muli v5 c1_i32_28
  let v29 : BitVec 32 := Scalar.addi c0_i32_29 v28
  v29.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_42 : BitVec 32 := 1#32
  let v43 : BitVec 32 := Scalar.muli v7 c1_i32_42
  let v44 : BitVec 32 := Scalar.addi c0_i32_43 v43
  v44.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_50 : BitVec 32 := 1#32
  let v53 : BitVec 32 := Scalar.muli v5 c1_i32_50
  let v54 : BitVec 32 := Scalar.addi c0_i32_51 v53
  v54.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : Index := Scalar.indexCast v2
  let c0_128 : Index := 0#32
  let c0_129 : Index := 0#32
  ![v150.toNat, 0, 0]
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_202 : BitVec 32 := 1#32
  let v339 : BitVec 32 := Scalar.muli v7 c1_i32_202
  let v340 : BitVec 32 := Scalar.addi c0_i32_203 v339
  v340.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v353 : Index := Scalar.indexCast v5
  let c0_211 : Index := 0#32
  let c0_212 : Index := 0#32
  ![v353.toNat, 0, 0]
def k0_off3 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v556 : Index := Scalar.indexCast v7
  let c0_296 : Index := 0#32
  let c0_297 : Index := 0#32
  ![v556.toNat, 0, 0]
def k0_dev8 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_361 : BitVec 32 := 1#32
  let v738 : BitVec 32 := Scalar.muli v5 c1_i32_361
  let v739 : BitVec 32 := Scalar.addi c0_i32_362 v738
  v739.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 143
  | .vmem => 0
  | .smem => 0
  | _ => 0

abbrev hbmTy0_0 (i : Nat) : BufTy := match i % 128 with
  | 0 => ⟨S4x1024x1024, .bf16⟩
  | 1 => ⟨S1024x4096, .bf16⟩
  | 2 => ⟨S4x1024x32x128, .bf16⟩
  | 3 => ⟨S4x1024x32x128, .bf16⟩
  | 4 => ⟨S4096x1024, .bf16⟩
  | 5 => ⟨S4x1024x4096, .f32⟩
  | 6 => ⟨S4x1024x4096, .bf16⟩
  | 7 => ⟨S4x1024x32x128, .bf16⟩
  | 8 => ⟨S1024, .i32⟩
  | 9 => ⟨S_, .i32⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S1024, .i32⟩
  | 18 => ⟨S1024, .i32⟩
  | 19 => ⟨S_, .i32⟩
  | 20 => ⟨S1024, .i32⟩
  | 21 => ⟨S1024, .i1⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S1x1024, .i32⟩
  | 48 => ⟨S1024x1024, .i32⟩
  | 49 => ⟨S1024x1024, .i32⟩
  | 50 => ⟨S1024x1024, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x1024, .i32⟩
  | 58 => ⟨S1x1024, .i32⟩
  | 59 => ⟨S_, .i32⟩
  | 60 => ⟨S1x1024, .i32⟩
  | 61 => ⟨S1x1024, .i1⟩
  | 62 => ⟨S_, .i32⟩
  | 63 => ⟨S1x1024, .i32⟩
  | 64 => ⟨S1x1024, .i1⟩
  | 65 => ⟨S_, .i32⟩
  | 66 => ⟨S_, .i1⟩
  | 67 => ⟨S1x1024, .i1⟩
  | 68 => ⟨S1x1024, .i1⟩
  | 69 => ⟨S1x1024, .i1⟩
  | 70 => ⟨S1x1024, .i32⟩
  | 71 => ⟨S1x1024, .i32⟩
  | 72 => ⟨S1x1024, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1024x1, .i32⟩
  | 80 => ⟨S1024x1, .i32⟩
  | 81 => ⟨S_, .i32⟩
  | 82 => ⟨S1024x1, .i32⟩
  | 83 => ⟨S1024x1, .i1⟩
  | 84 => ⟨S_, .i32⟩
  | 85 => ⟨S1024x1, .i32⟩
  | 86 => ⟨S1024x1, .i1⟩
  | 87 => ⟨S_, .i32⟩
  | 88 => ⟨S_, .i1⟩
  | 89 => ⟨S1024x1, .i1⟩
  | 90 => ⟨S1024x1, .i1⟩
  | 91 => ⟨S1024x1, .i1⟩
  | 92 => ⟨S1024x1, .i32⟩
  | 93 => ⟨S1024x1, .i32⟩
  | 94 => ⟨S1024x1, .i32⟩
  | 95 => ⟨S1024x1024, .i32⟩
  | 96 => ⟨S1024x1024, .i32⟩
  | 97 => ⟨S1024x1024, .i1⟩
  | 98 => ⟨S1024x1024, .i1⟩
  | 99 => ⟨S4x32x1024x1024, .f32⟩
  | 100 => ⟨S4x32x1024x1024, .bf16⟩
  | 101 => ⟨S4x32x1024x1024, .f32⟩
  | 102 => ⟨S_, .f32⟩
  | 103 => ⟨S4x32x1024x1024, .f32⟩
  | 104 => ⟨S4x32x1024x1024, .f32⟩
  | 105 => ⟨S1x1x1024x1024, .i1⟩
  | 106 => ⟨S_, .f32⟩
  | 107 => ⟨S_, .f32⟩
  | 108 => ⟨S4x32x1024x1024, .i1⟩
  | 109 => ⟨S4x32x1024x1024, .f32⟩
  | 110 => ⟨S4x32x1024x1024, .f32⟩
  | 111 => ⟨S_, .f32⟩
  | 112 => ⟨S4x32x1024, .f32⟩
  | 113 => ⟨S4x32x1024x1, .f32⟩
  | 114 => ⟨S4x32x1024x1024, .f32⟩
  | 115 => ⟨S4x32x1024x1024, .f32⟩
  | 116 => ⟨S4x32x1024x1024, .f32⟩
  | 117 => ⟨S_, .i1⟩
  | 118 => ⟨S1024, .i1⟩
  | 119 => ⟨S1x1x1024x1, .i1⟩
  | 120 => ⟨S_, .f32⟩
  | 121 => ⟨S4x32x1024, .f32⟩
  | 122 => ⟨S4x32x1024x1, .f32⟩
  | 123 => ⟨S_, .f32⟩
  | 124 => ⟨S_, .f32⟩
  | 125 => ⟨S4x32x1024x1, .i1⟩
  | 126 => ⟨S4x32x1024x1, .f32⟩
  | 127 => ⟨S4x32x1024x1, .f32⟩
  | _ => ⟨S4x1024x1024, .bf16⟩

abbrev hbmTy0_1 (i : Nat) : BufTy := match i % 128 with
  | 0 => ⟨S4x32x1024x1024, .f32⟩
  | 1 => ⟨S4x32x1024x1024, .f32⟩
  | 2 => ⟨S1x1x1024x1, .i1⟩
  | 3 => ⟨S_, .f32⟩
  | 4 => ⟨S_, .f32⟩
  | 5 => ⟨S4x32x1024x1024, .i1⟩
  | 6 => ⟨S4x32x1024x1024, .f32⟩
  | 7 => ⟨S4x32x1024x1024, .f32⟩
  | 8 => ⟨S4x1024x32x128, .f32⟩
  | 9 => ⟨S4x32x128x1024, .f32⟩
  | 10 => ⟨S4x1024x32x128, .f32⟩
  | 11 => ⟨S4x1024x4096, .f32⟩
  | 12 => ⟨S4096x1024, .f32⟩
  | 13 => ⟨S4x1024x1024, .f32⟩
  | 14 => ⟨S4x1024x1024, .bf16⟩
  | _ => ⟨S4x1024x1024, .bf16⟩

abbrev hbmTy (i : Nat) : BufTy := match i / 128 with
  | 0 => hbmTy0_0 i
  | 1 => hbmTy0_1 i
  | _ => ⟨S4x1024x1024, .bf16⟩

abbrev bufTy : (tb : Table) → Fin (tcTables nBuf tb) → BufTy
  | .hbm, ⟨i, _⟩ => hbmTy i
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Ring.Proto.lean ====
/- The ring protocol of the kernel: the eight halves of the gathered scratch, the six remote copies, the barrier, and
   the schedule under which the rounds library accounts for them. Device `c` has `left c` and `right c`; copies 0, 1, 4
   go to the right, copies 2, 3, 5 to the left. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Rounds
public import Idealize.ShloMosaic.Lib.Tactic
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The user algebra: the pipeline's rounds and the ring's. -/
abbrev UU : Type := UR sig nD τ × URounds (GSem nD τ sig) Bool

local notation "𝕄" => MT nD τ sig Unit (Elt F) ℕ UU ℕ

/-- The ring's component of the user algebra. -/
abbrev ER : Emb (URounds (GSem nD τ sig) Bool) (MT nD τ sig Unit (Elt F) ℕ UU ℕ) := embR

/-! ## Neighbours -/

/-- The neighbour on the side `b`: the right one for `true`, the left one for `false`. -/
def nb (b : Bool) (c : Dev nD) : Dev nD := ⟨(c.val + if b then 1 else 3) % 4, Nat.mod_lt _ (by decide)⟩

/-- Going to one side and back. -/
theorem nb_nb (b : Bool) (c : Dev nD) : nb (!b) (nb b c) = c := by revert b c; decide

/-- Going back and then to the side. -/
theorem nb_nb' (b : Bool) (c : Dev nD) : nb b (nb (!b) c) = c := by revert b c; decide

/-- The side to which copy `i` goes. -/
def dir : Fin 6 → Bool := ![true, true, false, false, true, false]

/-! ## The halves of the gathered scratch -/

/-- The gathered scratch, whole. -/
abbrev commM : Memref sig .tc .vmem S4x2048x1024 .bf16 := Memref.whole cc0_scratch0

/-- The half of a slot of the gathered scratch at the offsets `o`, as a matrix. -/
abbrev half (o : Fin 3 → ℕ) (h : ∀ a, o a + S1x1024x1024.size a ≤ S4x2048x1024.size a) : Memref sig .tc .vmem S1024x1024 .bf16 :=
  (commM.slice (Rect.unit (s := S4x2048x1024) o S1x1024x1024.size h) (fun _ => rfl)).squeeze S1024x1024 squeezes_S1x1024x1024_S1024x1024

abbrev q0 : Memref sig .tc .vmem S1024x1024 .bf16 := half ![0, 0, 0] inb_S4x2048x1024_S1x1024x1024_0_0_0
abbrev o0 : Memref sig .tc .vmem S1024x1024 .bf16 := half ![0, 1024, 0] inb_S4x2048x1024_S1x1024x1024_0_1024_0
abbrev q1 : Memref sig .tc .vmem S1024x1024 .bf16 := half ![1, 0, 0] inb_S4x2048x1024_S1x1024x1024_1_0_0
abbrev o1 : Memref sig .tc .vmem S1024x1024 .bf16 := half ![1, 1024, 0] inb_S4x2048x1024_S1x1024x1024_1_1024_0
abbrev q2 : Memref sig .tc .vmem S1024x1024 .bf16 := half ![2, 0, 0] inb_S4x2048x1024_S1x1024x1024_2_0_0
abbrev o2 : Memref sig .tc .vmem S1024x1024 .bf16 := half ![2, 1024, 0] inb_S4x2048x1024_S1x1024x1024_2_1024_0
abbrev q3 : Memref sig .tc .vmem S1024x1024 .bf16 := half ![3, 0, 0] inb_S4x2048x1024_S1x1024x1024_3_0_0
abbrev o3 : Memref sig .tc .vmem S1024x1024 .bf16 := half ![3, 1024, 0] inb_S4x2048x1024_S1x1024x1024_3_1024_0

/-- The source of copy `i`. -/
def srcM : Fin 6 → Memref sig .tc .vmem S1024x1024 .bf16
  | 0 => q0 | 1 => o0 | 2 => q0 | 3 => o0 | 4 => q1 | 5 => o2

/-- The destination of copy `i`. -/
def dstM : Fin 6 → Memref sig .tc .vmem S1024x1024 .bf16
  | 0 => q1 | 1 => o1 | 2 => q2 | 3 => o2 | 4 => q3 | 5 => o3

/-- The share of its source that copy `i` borrows. -/
def shr : Fin 6 → PosShare TreeShare
  | 0 => fullShare.left | 1 => fullShare.left | 2 => fullShare.right.left | 3 => fullShare.right.left
  | 4 => fullShare.left | 5 => fullShare.left

/-! ## Cells -/

abbrev barS : Sem sig := ⟨0, by decide⟩
/-- The departure semaphore of copy `i`. -/
abbrev sS (i : Fin 6) : DmaSem sig := ⟨6 + i.val, by have := i.isLt; show 6 + i.val < 18; omega⟩
/-- The arrival semaphore of copy `i`. -/
abbrev rS (i : Fin 6) : DmaSem sig := ⟨12 + i.val, by have := i.isLt; show 12 + i.val < 18; omega⟩

abbrev barCell (c : Dev nD) : GSem nD τ sig := ((c : Thread nD τ), .reg barS)
abbrev sCell (i : Fin 6) (c : Dev nD) : GSem nD τ sig := ((c : Thread nD τ), .dma (sS i))
abbrev rCell (i : Fin 6) (c : Dev nD) : GSem nD τ sig := ((c : Thread nD τ), .dma (rS i))

/-- What one copy credits. -/
abbrev N : ℕ := q0.view.dmaCredit
theorem N_pos : 0 < N := View.dmaCredit_pos _ (by decide)
theorem credit_dst (i : Fin 6) : (dstM i).view.dmaCredit = N := by fin_cases i <;> rfl
theorem credit_src (i : Fin 6) : (srcM i).view.dmaCredit = N := by fin_cases i <;> rfl

/-! ## Contents -/

variable (A B : Dev nD → Vec F S1024x1024 .bf16)

/-- What copy `i` of device `c` carries: `c`'s own two blocks on the first four, a neighbour's on the last two. -/
def val (i : Fin 6) (c : Dev nD) : Vec F S1024x1024 .bf16 :=
  match i with
  | 0 => A c | 1 => B c | 2 => A c | 3 => B c | 4 => A (nb false c) | 5 => B (nb true c)

/-- A half `m` of device `c`'s scratch, at share `q`, reading `X`. -/
abbrev holds (m : Memref sig .tc .vmem S1024x1024 .bf16) (c : Dev nD) (q : PosShare TreeShare) (X : Vec F S1024x1024 .bf16) : sProp 𝕄 :=
  m.view.loc (c : Thread nD τ) ↦[m.view.set]{q} m.view.rep X

/-- A half `m` of device `c`'s scratch, whole, whatever it reads. -/
abbrev free (m : Memref sig .tc .vmem S1024x1024 .bf16) (c : Dev nD) : sProp 𝕄 :=
  iprop(∃ f : Buf (Elt F) (m.view.loc (c : Thread nD τ)), m.view.loc (c : Thread nD τ) ↦[m.view.set]{fullShare} f)

/-- What the departure of copy `i` hands back. -/
def sPay (i : Fin 6) (c : Dev nD) : sProp 𝕄 := holds (srcM i) c (shr i) (val A B i c)
/-- What the arrival of copy `i` on `c` hands over: the destination holding what the sender held. -/
def rPay (i : Fin 6) (c : Dev nD) : sProp 𝕄 := holds (dstM i) c fullShare (val A B i (nb (!dir i) c))
/-- One destination on device `c`, ready for copy `i`. -/
def ready (i : Fin 6) (c : Dev nD) : sProp 𝕄 := iprop(free (F := F) (dstM i) c ∗ reached (ER (F := F)) (rCell i c) 0)
/-- What the neighbour of `c` on side `b` hands over with its barrier unit: the destinations of the copies that `c` sends to it. -/
def barPay (b : Bool) (c : Dev nD) : sProp 𝕄 :=
  match b with
  | true => iprop(ready (F := F) 0 (nb true c) ∗ ready (F := F) 1 (nb true c) ∗ ready (F := F) 4 (nb true c))
  | false => iprop(ready (F := F) 2 (nb false c) ∗ ready (F := F) 3 (nb false c) ∗ ready (F := F) 5 (nb false c))

/-! ## The schedule -/

/-- Whether a cell is a departure's or an arrival's. -/
def isDma (s : SemLoc sig) : Prop := match s with | .reg _ => False | .dma n => 6 ≤ n.val
instance (s : SemLoc sig) : Decidable (isDma s) := by unfold isDma; cases s <;> infer_instance

/-- The payload of the cell `s` of device `c`. -/
def payOf (s : SemLoc sig) (c : Dev nD) (d : Bool) : sProp 𝕄 :=
  match s with
  | .reg _ => barPay d c
  | .dma n =>
    if h : n.val < 6 then iprop(emp)
    else if h' : n.val < 12 then sPay A B ⟨n.val - 6, by omega⟩ c
    else rPay A B ⟨n.val - 12, by have : n.val < 18 := n.isLt; omega⟩ c

/-- One round: two units on a barrier cell, one copy on each departure and arrival cell. -/
def Rd : Rounds.Schedule (GSem nD τ sig) Bool 𝕄 where
  duties g r := if r = 0 ∧ g.1.2 = .tc then (if g.2 = .reg barS then {false, true} else if isDma g.2 then {false} else ∅) else ∅
  unitless _ := False
  amount g _ _ := if g.2 = .reg barS then 1 else N
  payload g _ d := payOf A B g.2 g.1.1 d
  amount_pos g _ _ _ := by
    by_cases h : g.2 = .reg barS
    · rw [if_pos h]; exact Nat.one_pos
    · rw [if_neg h]; exact N_pos

instance Rd_storable (g : GSem nD τ sig) (r : ℕ) (d : Bool) :
    BI.Storable (upEmb : UEmb _ 𝕄) ((Rd A B).payload g r d) := by
  show BI.Storable upEmb (payOf A B g.2 g.1.1 d)
  unfold payOf barPay sPay rPay ready
  (repeat' split) <;> infer_instance

section Tables
variable (c : Dev nD) (i : Fin 6)

theorem sS_ne : (SemLoc.dma (sS i) : SemLoc sig) ≠ .reg barS := fun h => by cases h
theorem rS_ne : (SemLoc.dma (rS i) : SemLoc sig) ≠ .reg barS := fun h => by cases h
theorem isDma_s : isDma (SemLoc.dma (sS i) : SemLoc sig) := Nat.le_add_right 6 i.val
theorem isDma_r : isDma (SemLoc.dma (rS i) : SemLoc sig) := by show 6 ≤ 12 + i.val; omega

theorem duties_bar : (Rd A B).duties (barCell c) 0 = {false, true} := by
  dsimp only [Rd]; rw [if_pos ⟨rfl, rfl⟩, if_pos rfl]
theorem duties_s : (Rd A B).duties (sCell i c) 0 = {false} := by
  dsimp only [Rd]; rw [if_pos ⟨rfl, rfl⟩, if_neg (sS_ne i), if_pos (isDma_s i)]
theorem duties_r : (Rd A B).duties (rCell i c) 0 = {false} := by
  dsimp only [Rd]; rw [if_pos ⟨rfl, rfl⟩, if_neg (rS_ne i), if_pos (isDma_r i)]
theorem duties_later (g : GSem nD τ sig) : ∀ r, 1 ≤ r → (Rd A B).duties g r = ∅ :=
  fun r hr => by dsimp only [Rd]; rw [if_neg (fun h => by omega)]

theorem amount_bar (d : Bool) : (Rd A B).amount (barCell c) 0 d = 1 := by dsimp only [Rd]; exact if_pos rfl
theorem amount_s (d : Bool) : (Rd A B).amount (sCell i c) 0 d = N := by dsimp only [Rd]; exact if_neg (sS_ne i)
theorem amount_r (d : Bool) : (Rd A B).amount (rCell i c) 0 d = N := by dsimp only [Rd]; exact if_neg (rS_ne i)

theorem expect_bar : (Rd A B).expect (barCell c) 0 = 2 := by
  unfold Schedule.expect Schedule.amountOf; rw [duties_bar, Finset.sum_pair (by decide), amount_bar, amount_bar]
theorem expect_s : (Rd A B).expect (sCell i c) 0 = N := by
  unfold Schedule.expect Schedule.amountOf; rw [duties_s, Finset.sum_singleton, amount_s]
theorem expect_r : (Rd A B).expect (rCell i c) 0 = N := by
  unfold Schedule.expect Schedule.amountOf; rw [duties_r, Finset.sum_singleton, amount_r]

theorem payload_bar (d : Bool) : (Rd A B).payload (barCell c) 0 d = barPay d c := rfl
theorem payload_s (d : Bool) : (Rd A B).payload (sCell i c) 0 d = sPay A B i c := by
  show payOf A B (.dma (sS i)) c d = _
  unfold payOf
  dsimp only
  rw [dif_neg (by omega), dif_pos (by omega)]
  congr 1; exact Fin.ext (by simp)
theorem payload_r (d : Bool) : (Rd A B).payload (rCell i c) 0 d = rPay A B i c := by
  show payOf A B (.dma (rS i)) c d = _
  unfold payOf
  dsimp only
  rw [dif_neg (by omega), dif_neg (by omega)]
  congr 1; exact Fin.ext (by simp)

theorem rest_bar : bigSep ((Rd A B).duties (barCell c) 0 \ ∅) (fun d => (Rd A B).payload (barCell c) 0 d)
    = iprop(barPay false c ∗ barPay true c) := by
  rw [Finset.sdiff_empty, duties_bar, bigSep_eq_bigSepL_of_eq [false, true] (by decide) (by decide)]
  rfl
theorem rest_s : bigSep ((Rd A B).duties (sCell i c) 0 \ ∅) (fun d => (Rd A B).payload (sCell i c) 0 d) = sPay A B i c := by
  rw [Finset.sdiff_empty, duties_s, bigSep_singleton, payload_s]
theorem rest_r : bigSep ((Rd A B).duties (rCell i c) 0 \ ∅) (fun d => (Rd A B).payload (rCell i c) 0 d) = rPay A B i c := by
  rw [Finset.sdiff_empty, duties_r, bigSep_singleton, payload_r]

end Tables

/-! ## Dues and levels -/

/-- What copy `i` of device `c` owes: the arrival on the neighbour it goes to. -/
def due (i : Fin 6) (c : Dev nD) : CellTallies nD τ sig Unit := tallyAt (rCell i (nb (dir i) c)) () N
/-- The barrier unit that device `c` owes its neighbour on the side `b`. -/
def dueB (b : Bool) (c : Dev nD) : CellTallies nD τ sig Unit := tallyAt (barCell (nb b c)) () 1

/-- The dues of the copies not yet sent, latest first. -/
def owe5 (c : Dev nD) : CellTallies nD τ sig Unit := due 5 c
def owe4 (c : Dev nD) : CellTallies nD τ sig Unit := owe5 c + due 4 c
def owe3 (c : Dev nD) : CellTallies nD τ sig Unit := owe4 c + due 3 c
def owe1 (c : Dev nD) : CellTallies nD τ sig Unit := owe3 c + due 1 c
def owe2 (c : Dev nD) : CellTallies nD τ sig Unit := owe1 c + due 2 c
def owe0 (c : Dev nD) : CellTallies nD τ sig Unit := owe2 c + due 0 c
def oweR (c : Dev nD) : CellTallies nD τ sig Unit := owe0 c + dueB true c
/-- What a device owes at launch. -/
def O₀ (c : Dev nD) : CellTallies nD τ sig Unit := oweR c + dueB false c

def L (g : GSem nD τ sig) : Finset Unit := if g.1.2 = .tc then {()} else ∅
/-- Barrier cells at 1, the first four arrivals at 2, the last two at 3, the rest at 0. -/
def lv (g : GSem nD τ sig) (_ : Unit) : ℕ :=
  match g.2 with
  | .reg _ => 1
  | .dma n => if n.val < 12 then 0 else if n.val < 16 then 2 else 3

theorem L_of_ne (g : GSem nD τ sig) (h : g.1.2 ≠ .tc) : L g = ∅ := if_neg h
theorem L_tc (c : Dev nD) (sm : SemLoc sig) : L ((c : Thread nD τ), sm) = {()} := if_pos rfl

/-- The level of an arrival cell. -/
theorem lv_r (i : Fin 6) (c : Dev nD) : lv (rCell i c) () = if i.val < 4 then 2 else 3 := by
  show (if 12 + i.val < 12 then 0 else if 12 + i.val < 16 then 2 else 3) = _
  rw [if_neg (by omega)]
  split <;> split <;> first | rfl | omega

/-- Every cell with a due among `O` is a TensorCore's at a level above `k`. -/
def AboveTc (k : ℕ) (O : CellTallies nD τ sig Unit) : Prop := ∀ g u, 0 < O g u → L g = {()} ∧ k < lv g u

theorem AboveTc.add {k : ℕ} {O O' : CellTallies nD τ sig Unit} (h : AboveTc k O) (h' : AboveTc k O') : AboveTc k (O + O') := by
  intro g u hg
  rcases Nat.pos_iff_ne_zero.mp hg |> fun h0 => (by
    by_contra hc
    simp only [not_or, Nat.not_lt, Nat.le_zero] at hc
    exact h0 (by show O g u + O' g u = 0; omega) : 0 < O g u ∨ 0 < O' g u) with h1 | h1
  · exact h g u h1
  · exact h' g u h1

theorem above_due {k : ℕ} (i : Fin 6) (c : Dev nD) (hk : k < lv (rCell i (nb (dir i) c)) ()) : AboveTc k (due i c) := by
  intro g u hg
  unfold due at hg
  rw [tallyAt_apply] at hg
  by_cases h : g = rCell i (nb (dir i) c) ∧ u = ()
  · rw [h.1]; exact ⟨L_tc _ _, hk⟩
  · rw [if_neg h] at hg; exact absurd hg (Nat.lt_irrefl 0)

theorem mayWait_above (c : Dev nD) (sm : SemLoc sig) (O : CellTallies nD τ sig Unit)
    (h : AboveTc (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [(h g u hg).1]; exact Finset.mem_singleton_self _)
    (fun p hp => by rw [Finset.mem_singleton.mp hp])
    (fun g u hg => (h g u hg).2)

/-- The barrier may be waited for while the six copies are owed. -/
theorem mayWait_bar (c : Dev nD) : (levAts L lv : sProp 𝕄) ⊢ MayWait (c : Thread nD τ) (.reg barS) () (owe0 c) := by
  refine mayWait_above c _ _ ?_
  unfold owe0 owe2 owe1 owe3 owe4 owe5
  have h : ∀ i : Fin 6, AboveTc (lv (barCell c) ()) (due i c) := fun i => above_due i c (by rw [lv_r]; show 1 < _; split <;> decide)
  exact (((((h 5).add (h 4)).add (h 3)).add (h 1)).add (h 2)).add (h 0)

/-- The first arrival may be waited for while the last two copies are owed. -/
theorem mayWait_r0 (c : Dev nD) : (levAts L lv : sProp 𝕄) ⊢ MayWait (c : Thread nD τ) (.dma (rS 0)) () (owe4 c) := by
  refine mayWait_above c _ _ ?_
  unfold owe4 owe5
  exact (above_due 5 c (by rw [lv_r, lv_r]; decide)).add (above_due 4 c (by rw [lv_r, lv_r]; decide))

/-- The next three arrivals may be waited for while the last copy is owed. -/
theorem mayWait_r (i : Fin 6) (hi : i.val < 4) (c : Dev nD) :
    (levAts L lv : sProp 𝕄) ⊢ MayWait (c : Thread nD τ) (.dma (rS i)) () (owe5 c) := by
  refine mayWait_above c _ _ ?_
  unfold owe5
  refine above_due 5 c ?_
  rw [lv_r, lv_r, if_pos hi]; decide

end Cert.KernelIdeal.Ring
-- ==== Proof.Ring.Steps.lean ====
/- The remote steps of the body, each stated once: a barrier signal, the barrier wait, a copy, the wait for an arrival and
   the wait for a departure. -/
module

public import proofs.«01_k».proof.Proof.Ring.Proto

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (A B : Dev nD → Vec F S1024x1024 .bf16)

/-! ## The invariants -/

/-- The departure and arrival semaphores, the six departures first. -/
def osem (k : Fin 12) : SemLoc sig := .dma ⟨6 + k.val, by have := k.isLt; show 6 + k.val < 18; omega⟩
theorem osem_inj : Function.Injective osem := by decide
theorem osem_ne_bar : ∀ k : Fin 12, osem k ≠ .reg barS := by decide

def barEmb : Dev nD ↪ GSem nD τ sig := ⟨fun c => barCell c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the departure and arrival cells. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem s_mem (i : Fin 6) (c : Dev nD) : sCell i c ∈ (barCells ∪ scCells : Finset (GSem nD τ sig)) :=
  Finset.mem_union_right _ (Finset.mem_map.mpr ⟨(c, ⟨i.val, by omega⟩), Finset.mem_univ _, rfl⟩)
theorem r_mem (i : Fin 6) (c : Dev nD) : rCell i c ∈ (barCells ∪ scCells : Finset (GSem nD τ sig)) :=
  Finset.mem_union_right _ (Finset.mem_map.mpr ⟨(c, ⟨6 + i.val, by omega⟩), Finset.mem_univ _,
    Prod.ext rfl (congrArg SemLoc.dma (Fin.ext (by show 6 + (6 + i.val) = 12 + i.val; omega)))⟩)

/-- The records every device may consult: all the invariants under one map of names; round 0 of every barrier cell reached. -/
def recs (κ : GSem nD τ sig → ℕ) : sProp 𝕄 :=
  iprop((bigSep (barCells ∪ scCells) fun g => cellInv ER (Rd A B) (κ g) g) ∗ bigSep barCells fun g => reached ER g 0)

instance recs_persistent (κ : GSem nD τ sig → ℕ) : BI.Persistent (recs A B κ) := by unfold recs; infer_instance

variable (κ : GSem nD τ sig → ℕ)

theorem inv_at {g : GSem nD τ sig} (hg : g ∈ (barCells ∪ scCells : Finset (GSem nD τ sig))) :
    recs A B κ ⊢ cellInv ER (Rd A B) (κ g) g := by
  unfold recs
  iintro ⟨#H, -⟩
  have h : (bigSep (barCells ∪ scCells) fun g => (cellInv ER (Rd A B) (κ g) g : sProp 𝕄)) ⊢ cellInv ER (Rd A B) (κ g) g := bigSep_elim hg
  iapply h; iexact H

theorem reached_at (c : Dev nD) : recs A B κ ⊢ reached ER (barCell c) 0 := by
  unfold recs
  iintro ⟨-, #H⟩
  have h : (bigSep barCells fun g => (reached ER g 0 : sProp 𝕄)) ⊢ reached ER (barCell c) 0 :=
    bigSep_elim (Finset.mem_map_of_mem barEmb (Finset.mem_univ c))
  iapply h; iexact H

/-! ## What a device holds for its copies -/

/-- What device `c` needs for sending copy `i`, beside the source, the destination and the debt. -/
def outRes (i : Fin 6) (c : Dev nD) : sProp 𝕄 :=
  iprop(dutyTok ER (sCell i c) 0 false ∗ reached ER (sCell i c) 0 ∗ dutyTok ER (rCell i (nb (dir i) c)) 0 false)
/-- What device `c` holds for its arrival `i`. -/
def inRes (i : Fin 6) (c : Dev nD) : sProp 𝕄 :=
  iprop(cred (tallyAt (rCell i c) () N) ∗ atPos ER (rCell i c) 0 ∅ 0)
/-- A thread's debt, whatever waits it has recorded. -/
abbrev debt (c : Dev nD) (O : CellTallies nD τ sig Unit) : sProp 𝕄 := iprop(∃ W, owes (c : Thread nD τ) O W)
/-- A cell whose one round is over. -/
abbrev over (g : GSem nD τ sig) : sProp 𝕄 := atPos ER g (0 + 1) ∅ 0

variable {α : Type} {c : Dev nD} {Q : α → sProp (MT nD τ sig Unit (Elt F) ℕ UU ℕ)}

/-- The signal to the neighbour on side `b` pays its barrier duty with what that neighbour will copy into. -/
theorem wp_bar_signal (b : Bool) {p : Dev nD} (hp : p = nb b c) (O : CellTallies nD τ sig Unit)
    {k : PUnit → Prog (TpuEff nD τ sig (Elt F) Λ₀ (c : Thread nD τ).2) α} :
    iprop(recs A B κ ∗ debt c (O + dueB b c) ∗ dutyTok ER (barCell (nb b c)) 0 (!b) ∗ barPay (!b) (nb b c))
      ⊢ iprop((debt c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (p : Thread nD τ) barS 1) k) Q) := by
  subst hp
  iintro ⟨#HI, ⟨%W, HO⟩, Ht, Hp⟩ Hk
  iapply (Rounds.wp_signal 𝒱₀ ER (Rd A B) (c : Thread nD τ) none (dst := (nb b c : Thread nD τ)) (sem := barS) (r := 0) (d := !b)
      (κ := κ (barCell (nb b c))) (by rw [duties_bar]; cases b <;> decide) (amount_bar A B (nb b c) (!b)) () O rfl) $$ [HO Ht Hp]
  · isplitr; · iapply (inv_at A B κ (bar_mem (nb b c))); iexact HI
    isplitl [HO]; · iexact HO
    isplitl [Ht]; · iexact Ht
    isplitl [Hp]; · rw [payload_bar]; iexact Hp
    iapply (reached_at A B κ (nb b c)); iexact HI
  iintro HO
  iapply Hk
  iexists W; iexact HO

/-- The barrier wait brings both neighbours' destinations. -/
theorem wp_bar_wait {k : PUnit → Prog (TpuEff nD τ sig (Elt F) Λ₀ (c : Thread nD τ).2) α} :
    iprop(recs A B κ ∗ levAts L lv ∗ debt c (owe0 c) ∗ cred (tallyAt (barCell c) () 2) ∗ atPos ER (barCell c) 0 ∅ 0)
      ⊢ iprop(((debt c (owe0 c) ∗ over (barCell c) ∗ barPay false c ∗ barPay true c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  iintro ⟨#HI, #Hlev, ⟨%W, HO⟩, Hc, Ha⟩ Hk
  iapply (Rounds.wp_wait_rest_token 𝒱₀ ER (Rd A B) (c : Thread nD τ) none (κ := κ (barCell c))
      (wpE_semWait_eq 𝒱₀ (c : Thread nD τ) none Set.univ) (Set.mem_univ _) () (O := owe0 c) (W := W) (R := 0) (m := 0) (T := ∅)
      ((Nat.zero_add 2).trans (expect_bar A B c).symm)) $$ [Hc HO Ha]
  · isplitr; · iapply (inv_at A B κ (bar_mem c)); iexact HI
    isplitl [Hc]; · iexact Hc
    isplitl [HO]; · iexact HO
    isplitr; · iapply (mayWait_bar c); iexact Hlev
    iexact Ha
  iintro ⟨HO, Ha, -, Hp⟩
  ihave Hp' := (Entails.of_eq (rest_bar A B c)) $$ Hp
  iapply Hk
  isplitl [HO]; · iexists _; iexact HO
  isplitl [Ha]; · iexact Ha
  iexact Hp'

/-- What a landed copy leaves is the destination holding what the source held. -/
theorem landed (i : Fin 6) (c : Dev nD) (fd : Buf (Elt F) ((dstM i).view.loc (nb (dir i) c : Thread nD τ))) :
    ((dstM i).view.loc (nb (dir i) c : Thread nD τ) ↦[(dstM i).view.set]{fullShare}
        (dstM i).view.write (Elt F) fd ((srcM i).view.read (Elt F) ((srcM i).view.rep (val A B i c))) Finset.univ : sProp 𝕄)
      ⊢ (Rd A B).payload (rCell i (nb (dir i) c)) 0 false := by
  rw [payload_r, View.read_rep]
  unfold rPay holds
  rw [nb_nb]
  rw [pointsTo_rep (c := (nb (dir i) c : Thread nD τ)) (m := dstM i), View.read_write_univ]

/-- Copy `i` from device `c` to its neighbour. -/
theorem wp_copy (i : Fin 6) {p : Dev nD} (hp : p = nb (dir i) c) (O : CellTallies nD τ sig Unit)
    {hsc : (dstM i).view.ref.isScScratch = false}
    {hsrc : (srcM i).view.WordExact} {hdst : (dstM i).view.WordExact}
    {hsem : DmaTarget.Typed .vmem (.dma (rS i)) (.remote (p : Thread nD τ) (dstM i) (.dma (sS i)) hsc)}
    {k : PUnit → Prog (TpuEff nD τ sig (Elt F) Λ₀ (c : Thread nD τ).2) α} :
    iprop(recs A B κ ∗ debt c (O + due i c) ∗ outRes i c ∗ ready i (nb (dir i) c) ∗ holds (srcM i) c (shr i) (val A B i c))
      ⊢ iprop(((debt c O ∗ cred (tallyAt (sCell i c) () N)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (srcM i) (.remote (p : Thread nD τ) (dstM i) (.dma (sS i)) hsc) (.dma (rS i)) hsrc hdst hsem) k) Q) := by
  subst hp
  unfold outRes ready free
  iintro ⟨#HI, ⟨%W, HO⟩, ⟨Ht, Hr, Ht'⟩, ⟨⟨%fd, Hd⟩, Hr'⟩, Hs⟩ Hk
  iapply (Rounds.wp_send_pointsTo 𝒱₀ ER (Rd A B) (c : Thread nD τ) none (c' := (nb (dir i) c : Thread nD τ)) (src := srcM i) (dst := dstM i)
      (sS := .dma (sS i)) (sem := .dma (rS i)) (q := shr i) (fs := (srcM i).view.rep (val A B i c)) (κ₁ := κ (sCell i c))
      (κ₂ := κ (rCell i (nb (dir i) c))) (r₁ := 0) (r₂ := 0) (d₁ := false) (d₂ := false) (fd := fd)
      (by rw [duties_s]; exact Finset.mem_singleton_self _) (by rw [duties_r]; exact Finset.mem_singleton_self _)
      () () N (credit_dst i) (amount_s A B c i false) (amount_r A B (nb (dir i) c) i false) O rfl (W := W)
      (by rw [payload_s]; exact BI.Entails.refl _) (landed A B i c fd)) $$ [Hs Hd HO Ht Hr Ht' Hr']
  · isplitr; · iapply (inv_at A B κ (s_mem i c)); iexact HI
    isplitr; · iapply (inv_at A B κ (r_mem i (nb (dir i) c))); iexact HI
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]; · iexists W; iexact HO
  iexact Hc

/-- The wait for arrival `i` brings the destination, holding what was sent. -/
theorem wp_arrive (i : Fin 6) (O : CellTallies nD τ sig Unit) (hm : (levAts L lv : sProp 𝕄) ⊢ MayWait (c : Thread nD τ) (.dma (rS i)) () O)
    {sp sp' : Space} {s s' : Shape} {e e' : EltTy} {src : Memref sig (c : Thread nD τ).2.kind sp s e}
    {dst : Memref sig (c : Thread nD τ).2.kind sp' s' e'} {hw : src.view.WordExact} {hw' : dst.view.WordExact} (hN : dst.view.dmaCredit = N)
    {k : PUnit → Prog (TpuEff nD τ sig (Elt F) Λ₀ (c : Thread nD τ).2) α} :
    iprop(recs A B κ ∗ levAts L lv ∗ debt c O ∗ inRes i c)
      ⊢ iprop(((debt c O ∗ over (rCell i c) ∗ rPay A B i c) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 (rS i) src dst hw hw') k) Q) := by
  unfold inRes
  iintro ⟨#HI, #Hlev, ⟨%W, HO⟩, ⟨Hc, Ha⟩⟩ Hk
  iapply (Rounds.wp_wait_rest_token 𝒱₀ ER (Rd A B) (c : Thread nD τ) none (κ := κ (rCell i c))
      (wpE_waitDma2_eq 𝒱₀ (c : Thread nD τ) none Set.univ) (Set.mem_univ _) () (O := O) (W := W) (R := 0) (m := 0) (T := ∅)
      ((Nat.zero_add _).trans (hN.trans (expect_r A B c i).symm))) $$ [Hc HO Ha]
  · isplitr; · iapply (inv_at A B κ (r_mem i c)); iexact HI
    isplitl [Hc]; · rw [hN]; iexact Hc
    isplitl [HO]; · iexact HO
    isplitr; · iapply hm; iexact Hlev
    iexact Ha
  iintro ⟨HO, Ha, -, Hp⟩
  ihave Hp' := (Entails.of_eq (rest_r A B c i)) $$ Hp
  iapply Hk
  isplitl [HO]; · iexists _; iexact HO
  isplitl [Ha]; · iexact Ha
  iexact Hp'

/-- The wait for departure `i` brings the lent share of the source back. -/
theorem wp_depart (i : Fin 6) {sp sp' : Space} {s s' : Shape} {e e' : EltTy} {src : Memref sig (c : Thread nD τ).2.kind sp s e}
    {dst : Memref sig (c : Thread nD τ).2.kind sp' s' e'} {hw : src.view.WordExact} {hw' : dst.view.WordExact} (hN : dst.view.dmaCredit = N)
    {k : PUnit → Prog (TpuEff nD τ sig (Elt F) Λ₀ (c : Thread nD τ).2) α} :
    iprop(recs A B κ ∗ debt c 0 ∗ cred (tallyAt (sCell i c) () N) ∗ atPos ER (sCell i c) 0 ∅ 0)
      ⊢ iprop(((debt c 0 ∗ over (sCell i c) ∗ sPay A B i c) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 (sS i) src dst hw hw') k) Q) := by
  iintro ⟨#HI, ⟨%W, HO⟩, Hc, Ha⟩ Hk
  iapply (Rounds.wp_wait_rest_token 𝒱₀ ER (Rd A B) (c : Thread nD τ) none (κ := κ (sCell i c))
      (wpE_waitDma2_eq 𝒱₀ (c : Thread nD τ) none Set.univ) (Set.mem_univ _) () (O := 0) (W := W) (R := 0) (m := 0) (T := ∅)
      ((Nat.zero_add _).trans (hN.trans (expect_s A B c i).symm))) $$ [Hc HO Ha]
  · isplitr; · iapply (inv_at A B κ (s_mem i c)); iexact HI
    isplitl [Hc]; · rw [hN]; iexact Hc
    isplitl [HO]; · iexact HO
    isplitr; · rw [MayWait_zero]; iempintro
    iexact Ha
  iintro ⟨HO, Ha, -, Hp⟩
  ihave Hp' := (Entails.of_eq (rest_s A B c i)) $$ Hp
  iapply Hk
  isplitl [HO]; · iexists _; iexact HO
  isplitl [Ha]; · iexact Ha
  iexact Hp'

end Cert.KernelIdeal.Ring
-- ==== Proof.Ring.Spec.lean ====
/- What one device computes, as functions of the vectors it reads: over any float type, in the kernel's own operations. -/
module

public import proofs.«01_k».proof.Proof.Ring.Steps
public import Idealize.ShloMosaic.Lib.VecWindow
public import Idealize.ShloMosaic.Lib.Pipeline.Value
public import Idealize.ShloMosaic.Lib.Writes
public import Idealize.ShloMosaic.Lib.Pointwise.Index

@[expose] public section

noncomputable section

namespace Cert.KernelIdeal.Ring

open Idealize.ShloMosaic
open Cert.KernelIdeal.Gen

variable {F : FTy → Type} [FloatOps F]

/-- The order in which the rows of a sequence are laid out: blocks of 64 rows, those of one residue mod 4 side by side. -/
def perm (r : Fin 1024) : Fin 1024 := ⟨64 * (4 * (r.val / 64 % 4) + r.val / 64 / 4) + r.val % 64, by have := r.isLt; omega⟩

/-- The permutation of the rows is its own inverse. -/
theorem perm_perm (r : Fin 1024) : perm (perm r) = r := by
  apply Fin.ext; show 64 * (4 * ((64 * (4 * (r.val / 64 % 4) + r.val / 64 / 4) + r.val % 64) / 64 % 4) + _ / 64 / 4) + _ % 64 = _
  simp only [perm]
  have := r.isLt; omega

/-- The rows of a device's sequence, reordered. -/
def xpV (X : Vec F S1x1024x1024 .bf16) : Vec F S1024x1024 .bf16 := fun ix => X (ix3 0 (perm (ix 0)) (ix 1))

/-- A product of two square matrices, accumulated from zero. -/
def mmV (x w : FVec F S1024x1024 .bf16) : FVec F S1024x1024 .f32 :=
  matmul dot_S1024x1024_S1024x1024_S1024x1024_1_0_0_1_n_n none x w (constant S1024x1024 .f32 0x00000000#32)

/-- The queries of one group of eight heads. -/
def qV (x w : FVec F S1024x1024 .bf16) : FVec F S1024x1024 .bf16 := truncf .bf16 (mmV x w) bitsLt_bf16_f32

/-- The keys, or values, of group `g`. -/
def groupV (K : Vec F S4x1024x1024 .bf16) (g : Fin 4) : Vec F S1024x1024 .bf16 := fun ix => K (ix3 g (ix 0) (ix 1))

/-- Attention of one head within each of four sets of 256 rows. -/
def attnV (q k v : FVec F S4x256x128 .bf16) : FVec F S4x256x128 .bf16 :=
  have s : FVec F S4x256x256 .f32 := matmul dot_S4x256x128_S4x256x128_S4x256x256_2_2_1_1_0_0 none q k (constant S4x256x256 .f32 0x00000000#32)
  have e : FVec F S4x256x256 .f32 := exp (mulf s (broadcast S4x256x256 (Scalar.ofBits .f32 0x3DB504F3#32)))
  have z : FVec F S4x256 .f32 := multiReduction .add [2] S4x256 e 0x00000000#32 reduces_S4x256x256_S4x256 (.inl rfl) rfl
  have w : FVec F S4x256x256 .f32 := divf e (broadcastTo S4x256x256 (shapeCast S4x256x1 z shapeCasts_S4x256_S4x256x1) broadcasts_S4x256x1_S4x256x256)
  truncf .bf16 (matmul dot_S4x256x256_S4x256x128_S4x256x128_2_1_1_2_0_0 none (truncf .bf16 w bitsLt_bf16_f32) v (constant S4x256x128 .f32 0x00000000#32)) bitsLt_bf16_f32

/-- One head of a group: columns `o 1 …` of the three matrices, the rows taken in four sets of 256. -/
def headV (o : Fin 2 → ℕ) (h : S1024x1024.Slices o S1024x128) (q k v : FVec F S1024x1024 .bf16) : FVec F S1024x128 .bf16 :=
  shapeCast S1024x128 (shapeCast S1024x128 (attnV (shapeCast S4x256x128 (extractStridedSlice S1024x128 o q h) shapeCasts_S1024x128_S4x256x128)
    (shapeCast S4x256x128 (extractStridedSlice S1024x128 o k h) shapeCasts_S1024x128_S4x256x128)
    (shapeCast S4x256x128 (extractStridedSlice S1024x128 o v h) shapeCasts_S1024x128_S4x256x128)) shapeCasts_S4x256x128_S1024x128) shapeCasts_S1024x128_S1024x128

theorem slices_head (n : Fin 8) : S1024x1024.Slices ![0, 128 * n.val] S1024x128 := by
  fin_cases n <;> decide

/-- The eight heads of a group side by side. -/
def ctxV (q k v : FVec F S1024x1024 .bf16) : FVec F S1024x1024 .bf16 := fun ix =>
  headV ![0, 128 * ((ix 1).val / 128)] (slices_head ⟨(ix 1).val / 128, by have := (ix 1).isLt; change (ix 1).val < 1024 at this; omega⟩) q k v
    (ix2 (ix 0) ⟨(ix 1).val % 128, Nat.mod_lt _ (by decide)⟩)

/-- The result, its rows put back in the sequence's order. -/
def outV (acc : FVec F S1024x1024 .f32) : Vec F S1x1024x1024 .bf16 := fun ix => truncf .bf16 acc bitsLt_bf16_f32 (ix2 (perm (ix 1)) (ix 2))

section Acc
variable (A B : Dev nD → Vec F S1024x1024 .bf16) (X : Vec F S1x1024x1024 .bf16) (K V : Vec F S4x1024x1024 .bf16)

/-- The attention of the heads of group `g`, whose query weights are device `g`'s block. -/
def ctxG (g : Dev nD) : FVec F S1024x1024 .bf16 := ctxV (qV (xpV X) (A g)) (groupV K g) (groupV V g)

/-- Its projection by the same device's block of the output weights. -/
def projG (g : Dev nD) : FVec F S1024x1024 .f32 := mmV (ctxG A X K V g) (B g)

/-- The running sum on device `c` after its own group. -/
def acc0 (c : Dev nD) : FVec F S1024x1024 .f32 := projG A B X K V c
/-- The sum after the left neighbour's group. -/
def acc1 (c : Dev nD) : FVec F S1024x1024 .f32 := addf (acc0 A B X K V c) (projG A B X K V (nb false c))
/-- The sum after the right neighbour's group. -/
def acc2 (c : Dev nD) : FVec F S1024x1024 .f32 := addf (acc1 A B X K V c) (projG A B X K V (nb true c))
/-- The sum after the far device's group: all four. -/
def acc3 (c : Dev nD) : FVec F S1024x1024 .f32 := addf (acc2 A B X K V c) (projG A B X K V (nb false (nb false c)))

/-- What device `c` returns. -/
def resV (c : Dev nD) : Vec F S1x1024x1024 .bf16 := outV (acc3 A B X K V c)

end Acc

end Cert.KernelIdeal.Ring
-- ==== Proof.Ring.Pieces.lean ====
/- What the scratch buffers and the result read once their pieces are written. -/
module

public import proofs.«01_k».proof.Proof.Ring.Spec
public import Idealize.ShloMosaic.Lib.Pipeline.ReadBack

@[expose] public section

noncomputable section

namespace Cert.KernelIdeal.Ring

open Idealize.ShloMosaic
open Cert.KernelIdeal.Gen

variable {F : FTy → Type} [FloatOps F]

/-! ## Halves of the ring's buffer -/

section Half
variable (o : Fin 3 → ℕ) (h : ∀ a, o a + S1x1024x1024.size a ≤ S4x2048x1024.size a)

/-- The elements of a half, accessed through the whole buffer. -/
theorem access_half : (commM.access (Rect.unit (s := S4x2048x1024) o S1x1024x1024.size h)).set ⊆ (half o h).view.set :=
  subset_of_eq (View.set_reshape _ _).symm

/-- The same, as a load's rectangle. -/
theorem loadOn_half : commM.view.setOn (Rect.unit (s := S4x2048x1024) o S1x1024x1024.size h).toLoadRect.set ⊆ (half o h).view.set :=
  (subset_of_eq (View.set_slice _ _).symm).trans (access_half o h)

/-- A half reads the elements accessed, one dimension less. -/
theorem read_half (g : cc0_scratch0.ty.Contents (Elt F)) :
    (half o h).view.read (Elt F) g
      = shapeCast S1024x1024 ((commM.access (Rect.unit (s := S4x2048x1024) o S1x1024x1024.size h)).read (Elt F) g) shapeCasts_S1x1024x1024_S1024x1024 := rfl

/-- What a half reads after a store into it through the whole buffer. -/
theorem read_stored (g : cc0_scratch0.ty.Contents (Elt F)) (P : Vec F S1x1024x1024 .bf16) :
    (half o h).view.read (Elt F) ((commM.access (Rect.unit (s := S4x2048x1024) o S1x1024x1024.size h)).write (Elt F) g P Finset.univ)
      = shapeCast S1024x1024 P shapeCasts_S1x1024x1024_S1024x1024 := by
  rw [read_half, View.read_write_univ]

/-- What a load of a half through the whole buffer brings. -/
theorem load_half (X : Vec F S1024x1024 .bf16) :
    shapeCast S1024x1024 (commM.view.readAt (Elt F) (Rect.unit (s := S4x2048x1024) o S1x1024x1024.size h).toLoadRect ((half o h).view.rep X))
      shapeCasts_S1x1024x1024_S1024x1024 = X :=
  (half o h).view.read_rep X

end Half

/-- What the first two stores lay down in a half: a block as it was loaded, one dimension more. -/
theorem stored_block (m : Memref sig .tc .vmem S1024x1024 .bf16) (X : Vec F S1024x1024 .bf16) :
    shapeCast S1024x1024 (k0_pay1 (m.view.readAt (Elt F) (Rect.unit (s := S1024x1024) ![0, 0] S1024x1024.size inb_S1024x1024_S1024x1024_0_0).toLoadRect (m.view.rep X)))
      shapeCasts_S1x1024x1024_S1024x1024 = X := by
  unfold k0_pay1
  dsimp only
  rw [shapeCast_shapeCast, shapeCast_self]
  exact View.readAt_rep_full m.view X _

/-! ## A buffer written in pieces -/

section Written
variable {sp : Space} {s : Shape} {e : EltTy} (m : Memref sig .tc sp s e) (L : List (View.Piece (Elt F) s e)) (G : s.Idx → Elt F e)
  (hG : ∀ p ∈ L, ∀ x : p.1.shape.Idx, p.2 x = G (p.1.emb x)) (size : Fin s.rank → ℕ) (ht : View.Piece.tiled L size = true)
include hG ht

/-- Pieces of one function that tile a buffer leave it reading that function. -/
theorem read_pieces (f : m.view.ty.Contents (Elt F)) : m.view.read (Elt F) (m.view.writes (Elt F) f L) = G :=
  funext fun y => View.read_writes_apply_of_pieces m.view f G L hG y (View.cover_of_tiled L size ht y)

/-- A load of the whole buffer after such pieces. -/
theorem cov_pieces {off : Fin s.rank → ℕ} (inb : ∀ a, off a + s.size a ≤ s.size a) :
    m.view.readCov L (Rect.unit off s.size inb).toLoadRect = G := by
  unfold View.readCov
  rw [View.readAt_full]
  exact read_pieces m L G hG size ht _

end Written

/-- A group of the keys or values, loaded. -/
theorem load_group (m : Memref sig .tc .vmem S4x1024x1024 .bf16) (K : Vec F S4x1024x1024 .bf16) (g : Fin 4) {o : Fin 3 → ℕ}
    (h : ∀ a, o a + S1x1024x1024.size a ≤ S4x1024x1024.size a) (ho : o = ![g.val, 0, 0]) :
    shapeCast S1024x1024 (m.view.readAt (Elt F) (Rect.unit (s := S4x1024x1024) o S1x1024x1024.size h).toLoadRect (m.view.rep K))
      shapeCasts_S1x1024x1024_S1024x1024 = groupV K g := by
  subst ho
  rw [View.readAt_rep]
  funext ix
  refine (shapeCast_dropUnit_apply ![1024, 1024] _ _ ix).trans (congrArg K ?_)
  funext a
  apply Fin.ext
  show (![g.val, 0, 0] a) + 1 * _ = _
  fin_cases a
  · show g.val + 1 * 0 = _; rw [Nat.mul_zero, Nat.add_zero]; rfl
  · show 0 + 1 * _ = _; rw [Nat.zero_add, Nat.one_mul]; rfl
  · show 0 + 1 * _ = _; rw [Nat.zero_add, Nat.one_mul]; rfl

theorem inb_row (t : ℕ) (ht : t < 16) : ∀ a, ![0, 64 * t, 0] a + S1x64x1024.size a ≤ S1x1024x1024.size a := by
  intro a
  fin_cases a
  · show 0 + 1 ≤ 1; omega
  · show 64 * t + 64 ≤ 1024; omega
  · show 0 + 1024 ≤ 1024; omega
theorem inb_slot (d : ℕ) (hd : d < 16) : ∀ a, ![64 * d, 0] a + S64x1024.size a ≤ S1024x1024.size a := by
  intro a
  fin_cases a
  · show 64 * d + 64 ≤ 1024; omega
  · show 0 + 1024 ≤ 1024; omega
theorem inb_head (n : Fin 8) : ∀ a, ![0, 128 * n.val] a + S1024x128.size a ≤ S1024x1024.size a := by
  have := n.isLt
  intro a
  fin_cases a
  · show 0 + 1024 ≤ 1024; omega
  · show 128 * n.val + 128 ≤ 1024; omega

/-- A block of 64 rows moved from place `t` to place `d`. -/
theorem row_piece (m : Memref sig .tc .vmem S1x1024x1024 .bf16) (X : Vec F S1x1024x1024 .bf16) (d t : ℕ) (hd : d < 16) (ht : t < 16)
    (htd : t = 4 * (d % 4) + d / 4) (x : S64x1024.Idx) :
    k0_pay3 (m.view.readAt (Elt F) (Rect.unit (s := S1x1024x1024) ![0, 64 * t, 0] S1x64x1024.size (inb_row t ht)).toLoadRect (m.view.rep X)) x
      = xpV X ((Rect.unit (s := S1024x1024) ![64 * d, 0] S64x1024.size (inb_slot d hd)).emb x) := by
  unfold k0_pay3
  dsimp only
  rw [shapeCast_self, View.readAt_rep]
  refine (shapeCast_dropUnit_apply ![64, 1024] _ _ x).trans (congrArg X ?_)
  have hx : (x 0).val < 64 := (x 0).isLt
  funext a
  apply Fin.ext
  show (![0, 64 * t, 0] a) + 1 * _ = _
  fin_cases a
  · rfl
  · show 64 * t + 1 * (x 0).val = 64 * (4 * ((64 * d + 1 * (x 0).val) / 64 % 4) + (64 * d + 1 * (x 0).val) / 64 / 4) + (64 * d + 1 * (x 0).val) % 64
    rw [show (64 * d + 1 * (x 0).val) / 64 = d by omega, show (64 * d + 1 * (x 0).val) % 64 = (x 0).val by omega, htd]; omega
  · show 0 + 1 * (x 1).val = 0 + 1 * (x 1).val; rfl

/-- A head's columns, put in their place. -/
theorem head_piece (q k v : FVec F S1024x1024 .bf16) (n : Fin 8) (x : S1024x128.Idx) :
    headV ![0, 128 * n.val] (slices_head n) q k v x = ctxV q k v ((Rect.unit (s := S1024x1024) ![0, 128 * n.val] S1024x128.size (inb_head n)).emb x) := by
  have hx : (x 1).val < 128 := (x 1).isLt
  have hc : (((Rect.unit (s := S1024x1024) ![0, 128 * n.val] S1024x128.size (inb_head n)).emb x) 1).val = 128 * n.val + 1 * (x 1).val := rfl
  have key : ∀ (j : ℕ) (hj : S1024x1024.Slices ![0, 128 * j] S1024x128) (y : S1024x128.Idx), j = n.val → y = x →
      headV ![0, 128 * n.val] (slices_head n) q k v x = headV ![0, 128 * j] hj q k v y := by
    rintro _ _ _ rfl rfl; rfl
  refine key _ _ _ ?_ ?_
  · rw [hc]; omega
  · funext a
    apply Fin.ext
    fin_cases a
    · show 0 + 1 * (x 0).val = (x 0).val; omega
    · show (128 * n.val + 1 * (x 1).val) % 128 = (x 1).val; omega

/-- A block of 64 rows of the result, read from the accumulator just stored, put back from place `d` to place `t`. -/
theorem out_piece (m : Memref sig .tc .vmem S1024x1024 .f32) (acc : FVec F S1024x1024 .f32) (d t : ℕ) (hd : d < 16) (ht : t < 16)
    (hdt : d = 4 * (t % 4) + t / 4) (x : S1x64x1024.Idx) :
    k0_pay97 (m.view.readCov [⟨Rect.unit (s := S1024x1024) ![0, 0] S1024x1024.size inb_S1024x1024_S1024x1024_0_0, acc⟩]
        (Rect.unit (s := S1024x1024) ![64 * d, 0] S64x1024.size (inb_slot d hd)).toLoadRect) x
      = outV acc ((Rect.unit (s := S1x1024x1024) ![0, 64 * t, 0] S1x64x1024.size (inb_row t ht)).emb x) := by
  unfold k0_pay97
  dsimp only
  rw [View.readCov_fill m.view _ _ _ _ (by decide)]
  refine (shapeCast_addUnit_apply ![64, 1024] _ _ x).trans (congrArg (truncf .bf16 acc bitsLt_bf16_f32) ?_)
  have hx : (x 1).val < 64 := (x 1).isLt
  funext a
  apply Fin.ext
  show (![64 * d, 0] a) + 1 * _ = _
  fin_cases a
  · show 64 * d + 1 * (x 1).val = 64 * (4 * ((64 * t + 1 * (x 1).val) / 64 % 4) + (64 * t + 1 * (x 1).val) / 64 / 4) + (64 * t + 1 * (x 1).val) % 64
    rw [show (64 * t + 1 * (x 1).val) / 64 = t by omega, show (64 * t + 1 * (x 1).val) % 64 = (x 1).val by omega, hdt]; omega
  · show 0 + 1 * (x 2).val = 0 + 1 * (x 2).val; rfl

/-! ## The pieces together -/

section All

/-- The eight heads, the last one stored first in the list. -/
def headPieces (q k v : FVec F S1024x1024 .bf16) : List (View.Piece (Elt F) S1024x1024 .bf16) :=
  have p (n : Fin 8) : View.Piece (Elt F) S1024x1024 .bf16 :=
    ⟨Rect.unit (s := S1024x1024) ![0, 128 * n.val] S1024x128.size (inb_head n), headV ![0, 128 * n.val] (slices_head n) q k v⟩
  [p 7, p 6, p 5, p 4, p 3, p 2, p 1, p 0]

theorem headPieces_eq (q k v : FVec F S1024x1024 .bf16) : ∀ p ∈ headPieces q k v, ∀ x : p.1.shape.Idx, p.2 x = ctxV q k v (p.1.emb x) := by
  have h := head_piece q k v
  exact List.forall_mem_cons.2 ⟨h 7, List.forall_mem_cons.2 ⟨h 6, List.forall_mem_cons.2 ⟨h 5, List.forall_mem_cons.2 ⟨h 4, List.forall_mem_cons.2 ⟨h 3, List.forall_mem_cons.2 ⟨h 2, List.forall_mem_cons.2 ⟨h 1, List.forall_mem_cons.2 ⟨h 0, fun _ h => absurd h List.not_mem_nil⟩⟩⟩⟩⟩⟩⟩⟩

/-- The buffer of heads once the eight are stored. -/
theorem read_heads (m : Memref sig .tc .vmem S1024x1024 .bf16) (q k v : FVec F S1024x1024 .bf16) (f : m.view.ty.Contents (Elt F)) :
    m.view.read (Elt F) (m.view.writes (Elt F) f (headPieces q k v)) = ctxV q k v :=
  read_pieces m _ _ (headPieces_eq q k v) S1024x128.size rfl f

/-- A load of it. -/
theorem cov_heads (m : Memref sig .tc .vmem S1024x1024 .bf16) (q k v : FVec F S1024x1024 .bf16) {off : Fin 2 → ℕ}
    (inb : ∀ a, off a + S1024x1024.size a ≤ S1024x1024.size a) :
    m.view.readCov (headPieces q k v) (Rect.unit off S1024x1024.size inb).toLoadRect = ctxV q k v :=
  cov_pieces m _ _ (headPieces_eq q k v) S1024x128.size rfl inb

/-- The sixteen row blocks of a device's sequence, the last one stored first in the list. -/
def rowPieces (m : Memref sig .tc .vmem S1x1024x1024 .bf16) (X : Vec F S1x1024x1024 .bf16) : List (View.Piece (Elt F) S1024x1024 .bf16) :=
  have p (d t : ℕ) (hd : d < 16) (ht : t < 16) : View.Piece (Elt F) S1024x1024 .bf16 :=
    ⟨Rect.unit (s := S1024x1024) ![64 * d, 0] S64x1024.size (inb_slot d hd),
      k0_pay3 (m.view.readAt (Elt F) (Rect.unit (s := S1x1024x1024) ![0, 64 * t, 0] S1x64x1024.size (inb_row t ht)).toLoadRect (m.view.rep X))⟩
  [p 15 15 (by decide) (by decide), p 14 11 (by decide) (by decide), p 13 7 (by decide) (by decide), p 12 3 (by decide) (by decide), p 11 14 (by decide) (by decide), p 10 10 (by decide) (by decide), p 9 6 (by decide) (by decide), p 8 2 (by decide) (by decide), p 7 13 (by decide) (by decide), p 6 9 (by decide) (by decide), p 5 5 (by decide) (by decide), p 4 1 (by decide) (by decide), p 3 12 (by decide) (by decide), p 2 8 (by decide) (by decide), p 1 4 (by decide) (by decide), p 0 0 (by decide) (by decide)]

/-- The reordered sequence, loaded. -/
theorem cov_rows (m' : Memref sig .tc .vmem S1024x1024 .bf16) (m : Memref sig .tc .vmem S1x1024x1024 .bf16) (X : Vec F S1x1024x1024 .bf16) {off : Fin 2 → ℕ}
    (inb : ∀ a, off a + S1024x1024.size a ≤ S1024x1024.size a) :
    m'.view.readCov (rowPieces m X) (Rect.unit off S1024x1024.size inb).toLoadRect = xpV X := by
  have h := row_piece m X
  exact cov_pieces m' _ _ (List.forall_mem_cons.2 ⟨h 15 15 (by decide) (by decide) rfl, List.forall_mem_cons.2 ⟨h 14 11 (by decide) (by decide) rfl, List.forall_mem_cons.2 ⟨h 13 7 (by decide) (by decide) rfl, List.forall_mem_cons.2 ⟨h 12 3 (by decide) (by decide) rfl, List.forall_mem_cons.2 ⟨h 11 14 (by decide) (by decide) rfl, List.forall_mem_cons.2 ⟨h 10 10 (by decide) (by decide) rfl, List.forall_mem_cons.2 ⟨h 9 6 (by decide) (by decide) rfl, List.forall_mem_cons.2 ⟨h 8 2 (by decide) (by decide) rfl, List.forall_mem_cons.2 ⟨h 7 13 (by decide) (by decide) rfl, List.forall_mem_cons.2 ⟨h 6 9 (by decide) (by decide) rfl, List.forall_mem_cons.2 ⟨h 5 5 (by decide) (by decide) rfl, List.forall_mem_cons.2 ⟨h 4 1 (by decide) (by decide) rfl, List.forall_mem_cons.2 ⟨h 3 12 (by decide) (by decide) rfl, List.forall_mem_cons.2 ⟨h 2 8 (by decide) (by decide) rfl, List.forall_mem_cons.2 ⟨h 1 4 (by decide) (by decide) rfl, List.forall_mem_cons.2 ⟨h 0 0 (by decide) (by decide) rfl, fun _ h => absurd h List.not_mem_nil⟩⟩⟩⟩⟩⟩⟩⟩⟩⟩⟩⟩⟩⟩⟩⟩) S64x1024.size rfl inb

/-- The sixteen row blocks of the result, the last one stored first in the list. -/
def outPieces (m : Memref sig .tc .vmem S1024x1024 .f32) (acc : FVec F S1024x1024 .f32) : List (View.Piece (Elt F) S1x1024x1024 .bf16) :=
  have p (d t : ℕ) (hd : d < 16) (ht : t < 16) : View.Piece (Elt F) S1x1024x1024 .bf16 :=
    ⟨Rect.unit (s := S1x1024x1024) ![0, 64 * t, 0] S1x64x1024.size (inb_row t ht),
      k0_pay97 (m.view.readCov [⟨Rect.unit (s := S1024x1024) ![0, 0] S1024x1024.size inb_S1024x1024_S1024x1024_0_0, acc⟩]
        (Rect.unit (s := S1024x1024) ![64 * d, 0] S64x1024.size (inb_slot d hd)).toLoadRect)⟩
  [p 15 15 (by decide) (by decide), p 11 14 (by decide) (by decide), p 7 13 (by decide) (by decide), p 3 12 (by decide) (by decide), p 14 11 (by decide) (by decide), p 10 10 (by decide) (by decide), p 6 9 (by decide) (by decide), p 2 8 (by decide) (by decide), p 13 7 (by decide) (by decide), p 9 6 (by decide) (by decide), p 5 5 (by decide) (by decide), p 1 4 (by decide) (by decide), p 12 3 (by decide) (by decide), p 8 2 (by decide) (by decide), p 4 1 (by decide) (by decide), p 0 0 (by decide) (by decide)]

/-- The result once the sixteen are stored. -/
theorem read_out (m' : Memref sig .tc .vmem S1x1024x1024 .bf16) (m : Memref sig .tc .vmem S1024x1024 .f32) {acc acc' : FVec F S1024x1024 .f32} (e : acc = acc')
    (f : m'.view.ty.Contents (Elt F)) :
    m'.view.read (Elt F) (m'.view.writes (Elt F) f (outPieces m acc)) = outV acc' := by
  rw [← e]
  have h := out_piece m acc
  exact read_pieces m' _ _ (List.forall_mem_cons.2 ⟨h 15 15 (by decide) (by decide) rfl, List.forall_mem_cons.2 ⟨h 11 14 (by decide) (by decide) rfl, List.forall_mem_cons.2 ⟨h 7 13 (by decide) (by decide) rfl, List.forall_mem_cons.2 ⟨h 3 12 (by decide) (by decide) rfl, List.forall_mem_cons.2 ⟨h 14 11 (by decide) (by decide) rfl, List.forall_mem_cons.2 ⟨h 10 10 (by decide) (by decide) rfl, List.forall_mem_cons.2 ⟨h 6 9 (by decide) (by decide) rfl, List.forall_mem_cons.2 ⟨h 2 8 (by decide) (by decide) rfl, List.forall_mem_cons.2 ⟨h 13 7 (by decide) (by decide) rfl, List.forall_mem_cons.2 ⟨h 9 6 (by decide) (by decide) rfl, List.forall_mem_cons.2 ⟨h 5 5 (by decide) (by decide) rfl, List.forall_mem_cons.2 ⟨h 1 4 (by decide) (by decide) rfl, List.forall_mem_cons.2 ⟨h 12 3 (by decide) (by decide) rfl, List.forall_mem_cons.2 ⟨h 8 2 (by decide) (by decide) rfl, List.forall_mem_cons.2 ⟨h 4 1 (by decide) (by decide) rfl, List.forall_mem_cons.2 ⟨h 0 0 (by decide) (by decide) rfl, fun _ h => absurd h List.not_mem_nil⟩⟩⟩⟩⟩⟩⟩⟩⟩⟩⟩⟩⟩⟩⟩⟩) S1x64x1024.size rfl f

end All

end Cert.KernelIdeal.Ring
-- ==== Proof.Ring.Body.lean ====
/- The body of the kernel on one device. -/
module

public import proofs.«01_k».proof.Proof.Ring.Pieces

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (A B : Dev nD → Vec F S1024x1024 .bf16) (κ : GSem nD τ sig → ℕ)

/-- A memref's own elements on device `c`, reading `X`. -/
abbrev has {sp : Space} {s : Shape} {e : EltTy} (m : Memref sig .tc sp s e) (c : Dev nD) (X : s.Idx → Elt F e) : sProp 𝕄 :=
  m.view.loc (c : Thread nD τ) ↦[m.view.set]{fullShare} m.view.rep X
/-- A memref's own elements on device `c`, whatever they read. -/
abbrev any {sp : Space} {s : Shape} {e : EltTy} (m : Memref sig .tc sp s e) (c : Dev nD) : sProp 𝕄 :=
  iprop(∃ f : Buf (Elt F) (m.view.loc (c : Thread nD τ)), m.view.loc (c : Thread nD τ) ↦[m.view.set]{fullShare} f)

/-- What a device holds of the protocol when its body starts. -/
def ringIn (c : Dev nD) : sProp 𝕄 :=
  iprop(debt c (O₀ c) ∗ cred (tallyAt (barCell c) () 2) ∗ atPos ER (barCell c) 0 ∅ 0
    ∗ (dutyTok ER (barCell (nb false c)) 0 true ∗ dutyTok ER (barCell (nb true c)) 0 false)
    ∗ (reached ER (rCell 0 c) 0 ∗ reached ER (rCell 1 c) 0 ∗ reached ER (rCell 2 c) 0 ∗ reached ER (rCell 3 c) 0 ∗ reached ER (rCell 4 c) 0 ∗ reached ER (rCell 5 c) 0)
    ∗ (outRes 0 c ∗ outRes 1 c ∗ outRes 2 c ∗ outRes 3 c ∗ outRes 4 c ∗ outRes 5 c)
    ∗ (atPos ER (sCell 0 c) 0 ∅ 0 ∗ atPos ER (sCell 1 c) 0 ∅ 0 ∗ atPos ER (sCell 2 c) 0 ∅ 0 ∗ atPos ER (sCell 3 c) 0 ∅ 0 ∗ atPos ER (sCell 4 c) 0 ∅ 0 ∗ atPos ER (sCell 5 c) 0 ∅ 0)
    ∗ (inRes 0 c ∗ inRes 1 c ∗ inRes 2 c ∗ inRes 3 c ∗ inRes 4 c ∗ inRes 5 c)
    ∗ (free q0 c ∗ free o0 c ∗ free q1 c ∗ free o1 c ∗ free q2 c ∗ free o2 c ∗ free q3 c ∗ free o3 c))

/-- What a device holds of the protocol when its body ends: it owes nothing, each of its cells' one round is over, and its halves are its own again. -/
def ringOut (c : Dev nD) : sProp 𝕄 :=
  iprop(debt c 0 ∗ over (barCell c)
    ∗ (over (rCell 0 c) ∗ over (rCell 1 c) ∗ over (rCell 2 c) ∗ over (rCell 3 c) ∗ over (rCell 4 c) ∗ over (rCell 5 c))
    ∗ (over (sCell 0 c) ∗ over (sCell 1 c) ∗ over (sCell 2 c) ∗ over (sCell 3 c) ∗ over (sCell 4 c) ∗ over (sCell 5 c))
    ∗ (free q0 c ∗ free o0 c ∗ free q1 c ∗ free o1 c ∗ free q2 c ∗ free o2 c ∗ free q3 c ∗ free o3 c))

theorem dev1 (c : Dev nD) : (⟨k0_dev1 c, k0_dev1_lt c⟩ : Dev nD) = nb false c := Fin.ext (k0_dev1_eq c)
theorem dev2 (c : Dev nD) : (⟨k0_dev2 c, k0_dev2_lt c⟩ : Dev nD) = nb true c := Fin.ext (k0_dev2_eq c)

/-- Both ways around the ring lead to the device opposite. -/
theorem nb_twice (c : Dev nD) : nb true (nb true c) = nb false (nb false c) := by revert c; decide

/-- The number of the device opposite. -/
theorem opp_val (c : Dev nD) : (c.val + 1 + 1) % 4 = (nb false (nb false c)).val := by revert c; decide

/-- A device that owes nothing may wait at any cell. -/
theorem mayWait_zero (c : Dev nD) (sm : SemLoc sig) : (levAts L lv : sProp 𝕄) ⊢ MayWait (c : Thread nD τ) sm () 0 := by
  rw [MayWait_zero]
  iintro _
  iempintro

/-- A program that has returned has nothing left to prove but its postcondition. -/
theorem wp_done {c : Dev nD} {p : Prog (TpuEff nD τ sig (Elt F) Λ₀ (c : Thread nD τ).2) PUnit} {Kt : PUnit → sProp 𝕄} (h : p = .ret ⟨⟩) :
    Kt ⟨⟩ ⊢ wp frame (wpE (defs₀ (F := F)) 𝒱₀ (c : Thread nD τ) none) Set.univ p Kt := by
  rw [h, wp_ret]
  iintro H
  imodintro
  iexact H

set_option maxHeartbeats 4000000 in
/-- The body on one device: it takes its part in the ring and leaves the result `resV` in the output, its arguments as they were. -/
theorem body_run (c : Dev nD)
    (arg0 : Memref sig .tc .vmem S1x1024x1024 .bf16) (h0 : arg0.IsWhole) (arg1 : Memref sig .tc .vmem S1024x1024 .bf16) (h1 : arg1.IsWhole)
    (arg2 : Memref sig .tc .vmem S1024x1024 .bf16) (h2 : arg2.IsWhole) (arg3 : Memref sig .tc .vmem S4x1024x1024 .bf16) (h3 : arg3.IsWhole)
    (arg4 : Memref sig .tc .vmem S4x1024x1024 .bf16) (h4 : arg4.IsWhole) (arg5 : Memref sig .tc .vmem S1x1024x1024 .bf16) (h5 : arg5.IsWhole)
    (arg7 : Memref sig .tc .vmem S1024x1024 .bf16) (h7 : arg7.IsWhole) (arg8 : Memref sig .tc .vmem S1024x1024 .f32) (h8 : arg8.IsWhole)
    (arg9 : Memref sig .tc .vmem S1024x1024 .bf16) (h9 : arg9.IsWhole)
    (X : Vec F S1x1024x1024 .bf16) (K V : Vec F S4x1024x1024 .bf16) (Kt : PUnit → sProp 𝕄) :
    iprop(recs A B κ ∗ levAts L lv ∗ ringIn c
        ∗ (has arg0 c X ∗ has arg1 c (A c) ∗ has arg2 c (B c) ∗ has arg3 c K ∗ has arg4 c V ∗ any arg5 c ∗ any arg7 c ∗ any arg8 c ∗ any arg9 c)
        ∗ ((ringOut c ∗ has arg0 c X ∗ has arg1 c (A c) ∗ has arg2 c (B c) ∗ has arg3 c K ∗ has arg4 c V ∗ has arg5 c (resV A B X K V c)
            ∗ any arg7 c ∗ any arg8 c ∗ any arg9 c) -∗ Kt ⟨⟩))
      ⊢ wp frame (wpE (defs₀ (F := F)) 𝒱₀ (c : Thread nD τ) none) Set.univ
          (cc0__body (F := F) arg0 h0 arg1 h1 arg2 h2 arg3 h3 arg4 h4 arg5 h5 (Memref.whole cc0_scratch0) (Memref.isWhole_whole _) arg7 h7 arg8 h8 arg9 h9 cc0_scratch4 cc0_scratch5) Kt := by
  unfold ringIn
  iintro ⟨#HI, #Hlev, ⟨HO, HcB, HaB, ⟨HtL, HtR⟩, ⟨#Hr0, #Hr1, #Hr2, #Hr3, #Hr4, #Hr5⟩, ⟨Ho0, Ho1, Ho2, Ho3, Ho4, Ho5⟩,
      ⟨HaS0, HaS1, HaS2, HaS3, HaS4, HaS5⟩, ⟨Hi0, Hi1, Hi2, Hi3, Hi4, Hi5⟩, ⟨Hq0, Hw0, Hq1, Hw1, Hq2, Hw2, Hq3, Hw3⟩⟩,
    ⟨Hx, Hwq, Hwo, Hk, Hv, ⟨%f5, H5⟩, ⟨%f7, H7⟩, ⟨%f8, H8⟩, ⟨%f9, H9⟩⟩, Hcont⟩
  simp only [cc0__body_eq_skeleton]; unfold cc0__body_skel
  simp only [k0_part30_eq_skeleton]; unfold k0_part30_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  have i0 := access_half ![0, 0, 0] inb_S4x2048x1024_S1x1024x1024_0_0_0
  have i1 := access_half ![0, 1024, 0] inb_S4x2048x1024_S1x1024x1024_0_1024_0
  have l0 := loadOn_half ![0, 0, 0] inb_S4x2048x1024_S1x1024x1024_0_0_0
  have l1 := loadOn_half ![0, 1024, 0] inb_S4x2048x1024_S1x1024x1024_0_1024_0
  icases Hq0 with ⟨%g0, Hq0⟩
  icases Hw0 with ⟨%e0, Hw0⟩
  sl_exec
  unfold O₀ oweR
  iapply (wp_bar_signal A B κ false (dev1 c) (oweR c)) $$ [HO HtL Hq1 Hw1 Hq3]
  · isplitr; · iexact HI
    isplitl [HO]; · iexact HO
    isplitl [HtL]; · iexact HtL
    unfold barPay ready
    simp only [Bool.not_true, Bool.not_false]
    rw [show nb true (nb false c) = c from nb_nb false c]
    isplitl [Hq1]; · isplitl [Hq1]; · iexact Hq1
                     iexact Hr0
    isplitl [Hw1]; · isplitl [Hw1]; · iexact Hw1
                     iexact Hr1
    isplitl [Hq3]; · iexact Hq3
    iexact Hr4
  iintro HO
  sl_exec
  iapply (wp_bar_signal A B κ true (dev2 c) (owe0 c)) $$ [HO HtR Hq2 Hw2 Hw3]
  · isplitr; · iexact HI
    isplitl [HO]; · iexact HO
    isplitl [HtR]; · iexact HtR
    unfold barPay ready
    simp only [Bool.not_true, Bool.not_false]
    rw [show nb false (nb true c) = c from nb_nb true c]
    isplitl [Hq2]; · isplitl [Hq2]; · iexact Hq2
                     iexact Hr2
    isplitl [Hw2]; · isplitl [Hw2]; · iexact Hw2
                     iexact Hr3
    isplitl [Hw3]; · iexact Hw3
    iexact Hr5
  iintro HO
  sl_exec
  iapply (wp_bar_wait A B κ) $$ [HO HcB HaB]
  · isplitr; · iexact HI
    isplitr; · iexact Hlev
    isplitl [HO]; · iexact HO
    isplitl [HcB]; · iexact HcB
    iexact HaB
  unfold barPay
  iintro ⟨HO, HoB, ⟨Hd2, Hd3, Hd5⟩, ⟨Hd0, Hd1, Hd4⟩⟩
  sl_exec
  have hq : q0.view.read (Elt F) (body_run.sl.Hq0_w1 A c arg1 g0) = A c :=
    (read_stored _ _ _ _).trans (stored_block arg1 (A c))
  ihave Hq0 := (pointsTo_rep_of_read (c : Thread nD τ) q0 _ fullShare (A c) hq) $$ Hq0
  ihave Hq0 := (pointsTo_share (PosShare.mem_left_op_right fullShare)).1 $$ Hq0
  icases Hq0 with ⟨Hs0, Hq0⟩
  ihave Hq0 := (pointsTo_share (PosShare.mem_left_op_right fullShare.right)).1 $$ Hq0
  icases Hq0 with ⟨Hs2, Hq0⟩
  unfold owe0
  iapply (wp_copy A B κ 0 (Fin.ext (k0_dev3_eq c)) (owe2 c)) $$ [HO Ho0 Hd0 Hs0]
  · isplitr; · iexact HI
    isplitl [HO]; · iexact HO
    isplitl [Ho0]; · iexact Ho0
    isplitl [Hd0]; · iexact Hd0
    iexact Hs0
  iintro ⟨HO, Hc0⟩
  sl_exec
  unfold owe2
  iapply (wp_copy A B κ 2 (Fin.ext (k0_dev4_eq c)) (owe1 c)) $$ [HO Ho2 Hd2 Hs2]
  · isplitr; · iexact HI
    isplitl [HO]; · iexact HO
    isplitl [Ho2]; · iexact Ho2
    isplitl [Hd2]; · iexact Hd2
    iexact Hs2
  iintro ⟨HO, Hc2⟩
  sl_exec
  have hw : o0.view.read (Elt F) (body_run.sl.Hw0_w1 B c arg2 e0) = B c :=
    (read_stored _ _ _ _).trans (stored_block arg2 (B c))
  ihave Hw0 := (pointsTo_rep_of_read (c : Thread nD τ) o0 _ fullShare (B c) hw) $$ Hw0
  ihave Hw0 := (pointsTo_share (PosShare.mem_left_op_right fullShare)).1 $$ Hw0
  icases Hw0 with ⟨Hs1, Hw0⟩
  ihave Hw0 := (pointsTo_share (PosShare.mem_left_op_right fullShare.right)).1 $$ Hw0
  icases Hw0 with ⟨Hs3, Hw0⟩
  unfold owe1
  iapply (wp_copy A B κ 1 (Fin.ext (k0_dev5_eq c)) (owe3 c)) $$ [HO Ho1 Hd1 Hs1]
  · isplitr; · iexact HI
    isplitl [HO]; · iexact HO
    isplitl [Ho1]; · iexact Ho1
    isplitl [Hd1]; · iexact Hd1
    iexact Hs1
  iintro ⟨HO, Hc1⟩
  sl_exec
  unfold owe3
  iapply (wp_copy A B κ 3 (Fin.ext (k0_dev6_eq c)) (owe4 c)) $$ [HO Ho3 Hd3 Hs3]
  · isplitr; · iexact HI
    isplitl [HO]; · iexact HO
    isplitl [Ho3]; · iexact Ho3
    isplitl [Hd3]; · iexact Hd3
    iexact Hs3
  iintro ⟨HO, Hc3⟩
  sl_exec
  have hx : body_run.sl.v143 arg0 arg9 X = xpV X := cov_rows arg9 arg0 X _
  have hq0 : body_run.sl.r_2 A c arg0 arg9 X = qV (xpV X) (A c) := by
    unfold body_run.sl.r_2 k0_pay21
    rw [hx]
    exact congrArg (qV (xpV X)) (load_half _ _ (A c))
  have hk0 : body_run.sl.r_3 c arg3 K = groupV K c := load_group arg3 K c _ (k0_off1_eq c)
  have hv0 : body_run.sl.r_4 c arg4 V = groupV V c := load_group arg4 V c _ (k0_off1_eq c)
  have hc0 : body_run.sl.v324 A c arg0 arg3 arg4 arg7 arg9 X K V = ctxG A X K V c :=
    (cov_heads arg7 (body_run.sl.r_2 A c arg0 arg9 X) (body_run.sl.r_3 c arg3 K) (body_run.sl.r_4 c arg4 V) _).trans (by rw [hq0, hk0, hv0]; rfl)
  ihave H7 := (pointsTo_rep_of_read (c : Thread nD τ) arg7 _ fullShare (ctxG A X K V c) ?_) $$ H7
  · exact (read_heads arg7 (body_run.sl.r_2 A c arg0 arg9 X) (body_run.sl.r_3 c arg3 K) (body_run.sl.r_4 c arg4 V) _).trans (by rw [hq0, hk0, hv0]; rfl)
  ihave H8 := (pointsTo_rep_of_read (c : Thread nD τ) arg8 _ fullShare (acc0 A B X K V c) ?_) $$ H8
  · rw [View.read_writes_full, hc0]
    unfold k0_pay38
    dsimp only
    rw [shapeCast_self]
    exact congrArg (mmV (ctxG A X K V c)) (load_half _ _ (B c))
  iapply (wp_arrive A B κ 0 (owe4 c) (mayWait_r0 c) (credit_dst 0)) $$ [HO Hi0]
  · isplitr; · iexact HI
    isplitr; · iexact Hlev
    isplitl [HO]; · iexact HO
    iexact Hi0
  iintro ⟨HO, Hz0, Hq1⟩
  ihave Hq1 := (show rPay A B 0 c ⊢ holds q1 c fullShare (A (nb false c)) from BI.Entails.refl _) $$ Hq1
  ihave Hq1 := (pointsTo_share (PosShare.mem_left_op_right fullShare)).1 $$ Hq1
  icases Hq1 with ⟨Hs4, Hq1⟩
  have i2 := access_half ![1, 0, 0] inb_S4x2048x1024_S1x1024x1024_1_0_0
  have l2 := loadOn_half ![1, 0, 0] inb_S4x2048x1024_S1x1024x1024_1_0_0
  have i3 := access_half ![1, 1024, 0] inb_S4x2048x1024_S1x1024x1024_1_1024_0
  have l3 := loadOn_half ![1, 1024, 0] inb_S4x2048x1024_S1x1024x1024_1_1024_0
  sl_exec
  unfold owe4
  iapply (wp_copy A B κ 4 (Fin.ext (k0_dev7_eq c)) (owe5 c)) $$ [HO Ho4 Hd4 Hs4]
  · isplitr; · iexact HI
    isplitl [HO]; · iexact HO
    isplitl [Ho4]; · iexact Ho4
    isplitl [Hd4]; · iexact Hd4
    iexact Hs4
  iintro ⟨HO, Hc4⟩
  sl_exec
  iapply (wp_arrive A B κ 1 (owe5 c) (mayWait_r 1 (by decide) c) (credit_dst 1)) $$ [HO Hi1]
  · isplitr; · iexact HI
    isplitr; · iexact Hlev
    isplitl [HO]; · iexact HO
    iexact Hi1
  iintro ⟨HO, Hz1, Hw1⟩
  ihave Hw1 := (show rPay A B 1 c ⊢ holds o1 c fullShare (B (nb false c)) from BI.Entails.refl _) $$ Hw1
  sl_exec
  have hq1 : body_run.sl.r_11 A c arg0 arg9 X = qV (xpV X) (A (nb false c)) := by
    unfold body_run.sl.r_11 k0_pay39; rw [hx]; exact congrArg (qV (xpV X)) (load_half _ _ (A (nb false c)))
  have hk1 : body_run.sl.r_12 c arg3 K = groupV K (nb false c) := load_group arg3 K (nb false c) _ (k0_off2_eq c)
  have hv1 : body_run.sl.r_13 c arg4 V = groupV V (nb false c) := load_group arg4 V (nb false c) _ (k0_off2_eq c)
  have hc1 : body_run.sl.v535 A c arg0 arg3 arg4 arg7 arg9 X K V = ctxG A X K V (nb false c) :=
    (cov_heads arg7 (body_run.sl.r_11 A c arg0 arg9 X) (body_run.sl.r_12 c arg3 K) (body_run.sl.r_13 c arg4 V) _).trans (by rw [hq1, hk1, hv1]; rfl)
  ihave H7 := (pointsTo_rep_of_read (c : Thread nD τ) arg7 _ fullShare (ctxG A X K V (nb false c)) ?_) $$ H7
  · exact (read_heads arg7 (body_run.sl.r_11 A c arg0 arg9 X) (body_run.sl.r_12 c arg3 K) (body_run.sl.r_13 c arg4 V) _).trans (by rw [hq1, hk1, hv1]; rfl)
  ihave H8 := (pointsTo_rep_of_read (c : Thread nD τ) arg8 _ fullShare (acc1 A B X K V c) ?_) $$ H8
  · rw [View.read_writes_full, hc1]
    unfold k0_pay56
    dsimp only
    rw [shapeCast_self]
    exact congrArg₂ addf (View.readAt_rep_full _ _ _) (congrArg (mmV (ctxG A X K V (nb false c))) (load_half _ _ (B (nb false c))))
  iapply (wp_arrive A B κ 2 (owe5 c) (mayWait_r 2 (by decide) c) (credit_dst 2)) $$ [HO Hi2]
  · isplitr; · iexact HI
    isplitr; · iexact Hlev
    isplitl [HO]; · iexact HO
    iexact Hi2
  iintro ⟨HO, Hz2, Hq2⟩
  ihave Hq2 := (show rPay A B 2 c ⊢ holds q2 c fullShare (A (nb true c)) from BI.Entails.refl _) $$ Hq2
  have i4 := access_half ![2, 0, 0] inb_S4x2048x1024_S1x1024x1024_2_0_0
  have l4 := loadOn_half ![2, 0, 0] inb_S4x2048x1024_S1x1024x1024_2_0_0
  have i5 := access_half ![2, 1024, 0] inb_S4x2048x1024_S1x1024x1024_2_1024_0
  have l5 := loadOn_half ![2, 1024, 0] inb_S4x2048x1024_S1x1024x1024_2_1024_0
  sl_exec
  iapply (wp_arrive A B κ 3 (owe5 c) (mayWait_r 3 (by decide) c) (credit_dst 3)) $$ [HO Hi3]
  · isplitr; · iexact HI
    isplitr; · iexact Hlev
    isplitl [HO]; · iexact HO
    iexact Hi3
  iintro ⟨HO, Hz3, Hw2⟩
  ihave Hw2 := (show rPay A B 3 c ⊢ holds o2 c fullShare (B (nb true c)) from BI.Entails.refl _) $$ Hw2
  ihave Hw2 := (pointsTo_share (PosShare.mem_left_op_right fullShare)).1 $$ Hw2
  icases Hw2 with ⟨Hs5, Hw2⟩
  sl_exec
  unfold owe5
  rw [← zero_add (due 5 c)]
  iapply (wp_copy A B κ 5 (Fin.ext (k0_dev8_eq c)) 0) $$ [HO Ho5 Hd5 Hs5]
  · isplitr; · iexact HI
    isplitl [HO]; · iexact HO
    isplitl [Ho5]; · iexact Ho5
    isplitl [Hd5]; · iexact Hd5
    iexact Hs5
  iintro ⟨HO, Hc5⟩
  sl_exec
  have hq2 : body_run.sl.r_21 A c arg0 arg9 X = qV (xpV X) (A (nb true c)) := by
    unfold body_run.sl.r_21 k0_pay57; rw [hx]; exact congrArg (qV (xpV X)) (load_half _ _ (A (nb true c)))
  have hk2 : body_run.sl.r_22 c arg3 K = groupV K (nb true c) := load_group arg3 K (nb true c) _ (k0_off3_eq c 0)
  have hv2 : body_run.sl.r_23 c arg4 V = groupV V (nb true c) := load_group arg4 V (nb true c) _ (k0_off3_eq c 0)
  have hc2 : body_run.sl.v748 A c arg0 arg3 arg4 arg7 arg9 X K V = ctxG A X K V (nb true c) :=
    (cov_heads arg7 (body_run.sl.r_21 A c arg0 arg9 X) (body_run.sl.r_22 c arg3 K) (body_run.sl.r_23 c arg4 V) _).trans (by rw [hq2, hk2, hv2]; rfl)
  ihave H7 := (pointsTo_rep_of_read (c : Thread nD τ) arg7 _ fullShare (ctxG A X K V (nb true c)) ?_) $$ H7
  · exact (read_heads arg7 (body_run.sl.r_21 A c arg0 arg9 X) (body_run.sl.r_22 c arg3 K) (body_run.sl.r_23 c arg4 V) _).trans (by rw [hq2, hk2, hv2]; rfl)
  ihave H8 := (pointsTo_rep_of_read (c : Thread nD τ) arg8 _ fullShare (acc2 A B X K V c) ?_) $$ H8
  · rw [View.read_writes_full, hc2]
    unfold k0_pay74
    dsimp only
    rw [shapeCast_self]
    exact congrArg₂ addf (View.readAt_rep_full _ _ _) (congrArg (mmV (ctxG A X K V (nb true c))) (load_half _ _ (B (nb true c))))
  iapply (wp_arrive A B κ 4 0 (mayWait_zero c _) (credit_dst 4)) $$ [HO Hi4]
  · isplitr; · iexact HI
    isplitr; · iexact Hlev
    isplitl [HO]; · iexact HO
    iexact Hi4
  iintro ⟨HO, Hz4, Hq3⟩
  ihave Hq3 := (show rPay A B 4 c ⊢ holds q3 c fullShare (A (nb false (nb false c))) from BI.Entails.refl _) $$ Hq3
  have i6 := access_half ![3, 0, 0] inb_S4x2048x1024_S1x1024x1024_3_0_0
  have l6 := loadOn_half ![3, 0, 0] inb_S4x2048x1024_S1x1024x1024_3_0_0
  have i7 := access_half ![3, 1024, 0] inb_S4x2048x1024_S1x1024x1024_3_1024_0
  have l7 := loadOn_half ![3, 1024, 0] inb_S4x2048x1024_S1x1024x1024_3_1024_0
  sl_exec
  iapply (wp_arrive A B κ 5 0 (mayWait_zero c _) (credit_dst 5)) $$ [HO Hi5]
  · isplitr; · iexact HI
    isplitr; · iexact Hlev
    isplitl [HO]; · iexact HO
    iexact Hi5
  iintro ⟨HO, Hz5, Hw3⟩
  ihave Hw3 := (show rPay A B 5 c ⊢ holds o3 c fullShare (B (nb true (nb true c))) from BI.Entails.refl _) $$ Hw3
  rw [nb_twice c]
  sl_exec
  have hq3 : body_run.sl.r_31 A c arg0 arg9 X = qV (xpV X) (A (nb false (nb false c))) := by
    unfold body_run.sl.r_31 k0_pay75; rw [hx]; exact congrArg (qV (xpV X)) (load_half _ _ (A (nb false (nb false c))))
  have hk3 : body_run.sl.r_32 c arg3 K = groupV K (nb false (nb false c)) :=
    load_group arg3 K (nb false (nb false c)) _ ((k0_off3_eq c 1).trans (congrArg (![·, 0, 0]) (opp_val c)))
  have hv3 : body_run.sl.r_33 c arg4 V = groupV V (nb false (nb false c)) :=
    load_group arg4 V (nb false (nb false c)) _ ((k0_off3_eq c 1).trans (congrArg (![·, 0, 0]) (opp_val c)))
  have hc3 : body_run.sl.v951 A c arg0 arg3 arg4 arg7 arg9 X K V = ctxG A X K V (nb false (nb false c)) :=
    (cov_heads arg7 (body_run.sl.r_31 A c arg0 arg9 X) (body_run.sl.r_32 c arg3 K) (body_run.sl.r_33 c arg4 V) _).trans (by rw [hq3, hk3, hv3]; rfl)
  have hP : k0_pay96 (body_run.sl.v951 A c arg0 arg3 arg4 arg7 arg9 X K V) (body_run.sl.v952 B c)
      (View.readAt (Elt F) arg8.view (Rect.unit ![0, 0] S1024x1024.size inb_S1024x1024_S1024x1024_0_0).toLoadRect (arg8.view.rep (acc2 A B X K V c)))
      = acc3 A B X K V c := by
    rw [hc3]
    unfold k0_pay96
    dsimp only
    rw [shapeCast_self]
    exact congrArg₂ addf (View.readAt_rep_full _ _ _) (congrArg (mmV (ctxG A X K V (nb false (nb false c)))) (load_half _ _ (B (nb false (nb false c)))))
  ihave H5 := (pointsTo_rep_of_read (c : Thread nD τ) arg5 _ fullShare (resV A B X K V c) ?_) $$ H5
  · exact read_out arg5 arg8 hP f5
  iapply (wp_depart A B κ 0 (credit_src 0)) $$ [HO Hc0 HaS0]
  · isplitr; · iexact HI
    isplitl [HO]; · iexact HO
    isplitl [Hc0]; · iexact Hc0
    iexact HaS0
  iintro ⟨HO, Hy0, Hs0⟩
  ihave Hs0 := (show sPay A B 0 c ⊢ holds q0 c fullShare.left (A c) from BI.Entails.refl _) $$ Hs0
  try sl_exec
  iapply (wp_depart A B κ 2 (credit_src 2)) $$ [HO Hc2 HaS2]
  · isplitr; · iexact HI
    isplitl [HO]; · iexact HO
    isplitl [Hc2]; · iexact Hc2
    iexact HaS2
  iintro ⟨HO, Hy2, Hs2⟩
  ihave Hs2 := (show sPay A B 2 c ⊢ holds q0 c fullShare.right.left (A c) from BI.Entails.refl _) $$ Hs2
  try sl_exec
  iapply (wp_depart A B κ 1 (credit_src 1)) $$ [HO Hc1 HaS1]
  · isplitr; · iexact HI
    isplitl [HO]; · iexact HO
    isplitl [Hc1]; · iexact Hc1
    iexact HaS1
  iintro ⟨HO, Hy1, Hs1⟩
  ihave Hs1 := (show sPay A B 1 c ⊢ holds o0 c fullShare.left (B c) from BI.Entails.refl _) $$ Hs1
  try sl_exec
  iapply (wp_depart A B κ 3 (credit_src 3)) $$ [HO Hc3 HaS3]
  · isplitr; · iexact HI
    isplitl [HO]; · iexact HO
    isplitl [Hc3]; · iexact Hc3
    iexact HaS3
  iintro ⟨HO, Hy3, Hs3⟩
  ihave Hs3 := (show sPay A B 3 c ⊢ holds o0 c fullShare.right.left (B c) from BI.Entails.refl _) $$ Hs3
  try sl_exec
  iapply (wp_depart A B κ 4 (credit_src 4)) $$ [HO Hc4 HaS4]
  · isplitr; · iexact HI
    isplitl [HO]; · iexact HO
    isplitl [Hc4]; · iexact Hc4
    iexact HaS4
  iintro ⟨HO, Hy4, Hs4⟩
  ihave Hs4 := (show sPay A B 4 c ⊢ holds q1 c fullShare.left (A (nb false c)) from BI.Entails.refl _) $$ Hs4
  try sl_exec
  iapply (wp_depart A B κ 5 (credit_src 5)) $$ [HO Hc5 HaS5]
  · isplitr; · iexact HI
    isplitl [HO]; · iexact HO
    isplitl [Hc5]; · iexact Hc5
    iexact HaS5
  iintro ⟨HO, Hy5, Hs5⟩
  ihave Hs5 := (show sPay A B 5 c ⊢ holds o2 c fullShare.left (B (nb true c)) from BI.Entails.refl _) $$ Hs5
  try sl_exec
  ihave Hq0 := (pointsTo_share (PosShare.mem_left_op_right fullShare.right)).2 $$ [Hs2 Hq0]
  · isplitl [Hs2]; · iexact Hs2
    iexact Hq0
  ihave Hq0 := (pointsTo_share (PosShare.mem_left_op_right fullShare)).2 $$ [Hs0 Hq0]
  · isplitl [Hs0]; · iexact Hs0
    iexact Hq0
  ihave Hw0 := (pointsTo_share (PosShare.mem_left_op_right fullShare.right)).2 $$ [Hs3 Hw0]
  · isplitl [Hs3]; · iexact Hs3
    iexact Hw0
  ihave Hw0 := (pointsTo_share (PosShare.mem_left_op_right fullShare)).2 $$ [Hs1 Hw0]
  · isplitl [Hs1]; · iexact Hs1
    iexact Hw0
  ihave Hq1 := (pointsTo_share (PosShare.mem_left_op_right fullShare)).2 $$ [Hs4 Hq1]
  · isplitl [Hs4]; · iexact Hs4
    iexact Hq1
  ihave Hw2 := (pointsTo_share (PosShare.mem_left_op_right fullShare)).2 $$ [Hs5 Hw2]
  · isplitl [Hs5]; · iexact Hs5
    iexact Hw2
  iapply (wp_done (Kt := Kt) rfl)
  iapply Hcont
  unfold ringOut
  isplitl [HO HoB Hz0 Hz1 Hz2 Hz3 Hz4 Hz5 Hy0 Hy1 Hy2 Hy3 Hy4 Hy5 Hq0 Hw0 Hq1 Hw1 Hq2 Hw2 Hq3 Hw3]
  · isplitl [HO]; · iexact HO
    isplitl [HoB]; · iexact HoB
    isplitl [Hz0 Hz1 Hz2 Hz3 Hz4 Hz5]
    · isplitl [Hz0]; · iexact Hz0
      isplitl [Hz1]; · iexact Hz1
      isplitl [Hz2]; · iexact Hz2
      isplitl [Hz3]; · iexact Hz3
      isplitl [Hz4]; · iexact Hz4
      iexact Hz5
    isplitl [Hy0 Hy1 Hy2 Hy3 Hy4 Hy5]
    · isplitl [Hy0]; · iexact Hy0
      isplitl [Hy1]; · iexact Hy1
      isplitl [Hy2]; · iexact Hy2
      isplitl [Hy3]; · iexact Hy3
      isplitl [Hy4]; · iexact Hy4
      iexact Hy5
    isplitl [Hq0]; · iexists _; iexact Hq0
    isplitl [Hw0]; · iexists _; iexact Hw0
    isplitl [Hq1]; · iexists _; iexact Hq1
    isplitl [Hw1]; · iexists _; iexact Hw1
    isplitl [Hq2]; · iexists _; iexact Hq2
    isplitl [Hw2]; · iexists _; iexact Hw2
    isplitl [Hq3]; · iexists _; iexact Hq3
    iexists _; iexact Hw3
  isplitl [Hx]; · iexact Hx
  isplitl [Hwq]; · iexact Hwq
  isplitl [Hwo]; · iexact Hwo
  isplitl [Hk]; · iexact Hk
  isplitl [Hv]; · iexact Hv
  isplitl [H5]; · iexact H5
  isplitl [H7]; · iexists _; iexact H7
  isplitl [H8]; · iexists _; iexact H8
  iexists _; iexact H9

end Cert.KernelIdeal.Ring
-- ==== Proof.Ring.Comm.lean ====
/- The gathered scratch, held whole, is its eight halves, held one by one. -/
module

public import proofs.«01_k».proof.Proof.Ring.Proto
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-- Where the half `b` starts: slot `b / 2`, its first or its second 1024 rows. -/
def off (b : Fin 8) : Fin 3 → ℕ := ![b.val / 2, 1024 * (b.val % 2), 0]

theorem off_inb (b : Fin 8) (a : Fin 3) : off b a + S1x1024x1024.size a ≤ S4x2048x1024.size a := by revert b a; decide

/-- The elements of the half `b`. -/
def halfSet (b : Fin 8) : Finset S4x2048x1024.Idx := (Rect.unit (s := S4x2048x1024) (off b) S1x1024x1024.size (off_inb b)).set

/-- Membership in a half: the slot and the part of the rows. -/
theorem mem_halfSet (b : Fin 8) (i : S4x2048x1024.Idx) :
    i ∈ halfSet b ↔ (i 0).val = b.val / 2 ∧ 1024 * (b.val % 2) ≤ (i 1).val ∧ (i 1).val < 1024 * (b.val % 2) + 1024 := by
  unfold halfSet
  rw [Rect.mem_set_unit]
  have h2 : (i 2).val < 1024 := (i 2).isLt
  constructor
  · intro h
    have h0 : b.val / 2 ≤ (i 0).val ∧ (i 0).val < b.val / 2 + 1 := h 0
    have h1 : 1024 * (b.val % 2) ≤ (i 1).val ∧ (i 1).val < 1024 * (b.val % 2) + 1024 := h 1
    omega
  · rintro ⟨h0, h1, h1'⟩ a
    match a with
    | 0 => show b.val / 2 ≤ (i 0).val ∧ (i 0).val < b.val / 2 + 1; omega
    | 1 => exact ⟨h1, h1'⟩
    | 2 => exact ⟨Nat.zero_le _, by show (i 2).val < 0 + 1024; omega⟩

theorem halfSet_disjoint (b b' : Fin 8) (h : b ≠ b') : Disjoint (halfSet b) (halfSet b') := by
  rw [Finset.disjoint_left]
  intro i hi hi'
  rw [mem_halfSet] at hi hi'
  exact h (Fin.ext (by omega))

theorem halfSet_cover : Finset.univ.biUnion halfSet = Finset.univ := by
  ext i
  simp only [Finset.mem_biUnion, Finset.mem_univ, true_and, iff_true]
  have h0 : (i 0).val < 4 := (i 0).isLt
  have h1 : (i 1).val < 2048 := (i 1).isLt
  refine ⟨⟨2 * (i 0).val + (i 1).val / 1024, by omega⟩, (mem_halfSet _ _).mpr ?_⟩
  show (i 0).val = (2 * (i 0).val + (i 1).val / 1024) / 2 ∧ 1024 * ((2 * (i 0).val + (i 1).val / 1024) % 2) ≤ (i 1).val
    ∧ (i 1).val < 1024 * ((2 * (i 0).val + (i 1).val / 1024) % 2) + 1024
  omega

theorem half_set (o : Fin 3 → ℕ) (h : ∀ a, o a + S1x1024x1024.size a ≤ S4x2048x1024.size a) :
    (half o h).view.set = (Rect.unit (s := S4x2048x1024) o S1x1024x1024.size h).set :=
  (View.set_reshape _ _).trans (View.set_slice_whole _ _)

/-- One half at some contents. -/
abbrev piece (c : Dev nD) (b : Fin 8) : sProp 𝕄 :=
  iprop(∃ f : Buf (Elt F) ((c : Thread nD τ).loc cc0_scratch0), ((c : Thread nD τ).loc cc0_scratch0) ↦[halfSet b]{fullShare} f)

theorem free_half (c : Dev nD) (b : Fin 8) (o : Fin 3 → ℕ) (h : ∀ a, o a + S1x1024x1024.size a ≤ S4x2048x1024.size a) (e : o = off b) :
    (free (half o h) c : sProp 𝕄) = piece c b := by
  subst e
  unfold free
  rw [half_set]
  rfl

theorem pieces_eq (c : Dev nD) : (bigSep Finset.univ (piece (F := F) c) : sProp 𝕄)
    = iprop(free q0 c ∗ free o0 c ∗ free q1 c ∗ free o1 c ∗ free q2 c ∗ free o2 c ∗ free q3 c ∗ free o3 c) := by
  rw [free_half c 0 _ _ (by decide), free_half c 1 _ _ (by decide), free_half c 2 _ _ (by decide), free_half c 3 _ _ (by decide),
    free_half c 4 _ _ (by decide), free_half c 5 _ _ (by decide), free_half c 6 _ _ (by decide), free_half c 7 _ _ (by decide)]
  rw [bigSep_univ_eq_bigSepL [(0 : Fin 8), 1, 2, 3, 4, 5, 6, 7] (by decide) (by decide)]
  rfl

/-- The whole scratch, at any contents, is its eight halves. -/
theorem comm_split (c : Dev nD) :
    iprop(∃ f : Buf (Elt F) ((c : Thread nD τ).loc cc0_scratch0), ((c : Thread nD τ).loc cc0_scratch0) ↦{fullShare} f)
      ⊢ (iprop(free q0 c ∗ free o0 c ∗ free q1 c ∗ free o1 c ∗ free q2 c ∗ free o2 c ∗ free q3 c ∗ free o3 c) : sProp 𝕄) := by
  rw [← pieces_eq]
  iintro ⟨%f, H⟩
  have e := Idealize.ShloMosaic.Ring.pointsTo_blocks (Ix := Unit) (Name := ℕ) (U := UU) (Lvl := ℕ) (ℓ := (c : Thread nD τ).loc cc0_scratch0) halfSet halfSet_disjoint halfSet_cover (q := fullShare) f
  have h : (((c : Thread nD τ).loc cc0_scratch0) ↦{fullShare} f : sProp 𝕄) ⊢ bigSep Finset.univ (piece (F := F) c) := by
    rw [e]
    exact bigSep_mono fun b _ => (show (((c : Thread nD τ).loc cc0_scratch0) ↦[halfSet b]{fullShare} f : sProp 𝕄)
        ⊢ iprop(∃ g : Buf (Elt F) ((c : Thread nD τ).loc cc0_scratch0), ((c : Thread nD τ).loc cc0_scratch0) ↦[halfSet b]{fullShare} g) from by
      iintro H; iexists f; iexact H)
  iapply h; iexact H

/-- The eight halves, at any contents, are the whole scratch. -/
theorem comm_join (c : Dev nD) :
    iprop(free q0 c ∗ free o0 c ∗ free q1 c ∗ free o1 c ∗ free q2 c ∗ free o2 c ∗ free q3 c ∗ free o3 c)
      ⊢ (iprop(∃ f : Buf (Elt F) ((c : Thread nD τ).loc cc0_scratch0), ((c : Thread nD τ).loc cc0_scratch0) ↦{fullShare} f) : sProp 𝕄) := by
  have h (f₀ : Buf (Elt F) ((c : Thread nD τ).loc cc0_scratch0)) : (bigSep Finset.univ (piece (F := F) c) : sProp 𝕄)
      ⊢ iprop(∃ f : Buf (Elt F) ((c : Thread nD τ).loc cc0_scratch0), ((c : Thread nD τ).loc cc0_scratch0) ↦{fullShare} f) :=
    Idealize.ShloMosaic.Ring.pointsTo_blocks_join_exists (Ix := Unit) (Name := ℕ) (U := UU) (Lvl := ℕ) (ℓ := (c : Thread nD τ).loc cc0_scratch0)
      halfSet halfSet_disjoint halfSet_cover f₀
  iintro ⟨⟨%f₀, H0⟩, Hr⟩
  iapply (h f₀)
  irw [pieces_eq]
  isplitl [H0]; · iexists f₀; iexact H0
  iexact Hr

end Cert.KernelIdeal.Ring
-- ==== Proof.Ring.Region.lean ====
/- The kernel's one region: its windows, what its body starts from and leaves, and the record the launch takes. -/
module

public import proofs.«01_k».proof.Proof.Ring.Body
public import proofs.«01_k».proof.Proof.Ring.Comm
public import Idealize.ShloMosaic.Lib.Pipeline.TableIdle
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-- Updates of the members of a family make one update of the family. -/
theorem bigSep_fupd {I : Type} (s : Finset I) (Φ : I → sProp 𝕄) : bigSep s (fun i => iprop(|={Set.univ}=> Φ i)) ⊢ |={Set.univ}=> bigSep s Φ := by
  classical
  induction s using Finset.induction_on with
  | empty =>
    rw [bigSep_empty, bigSep_empty]
    iintro H; imodintro; iexact H
  | insert i s hi ih =>
    rw [bigSep_insert hi, bigSep_insert hi]
    show iprop((|={Set.univ}=> Φ i) ∗ bigSep s fun i => iprop(|={Set.univ}=> Φ i)) ⊢ iprop(|={Set.univ}=> (Φ i ∗ bigSep s Φ))
    iintro ⟨H, Hs⟩
    imod H with H
    imod ih $$ Hs with Hs
    imodintro
    isplitl [H] <;> iassumption

/- The buffers' contents as the region finds them, device by device. -/
variable (W : Dev nD → Valuation τ sig (Elt F))

/-- Device `c`'s block of tokens. -/
abbrev xW (c : Dev nD) : Vec F S1x1024x1024 .bf16 := W c main_arg0
/-- Device `c`'s block of the query weights. -/
abbrev qW (c : Dev nD) : Vec F S1024x1024 .bf16 := W c main_arg1
/-- Device `c`'s block of the output weights. -/
abbrev oW (c : Dev nD) : Vec F S1024x1024 .bf16 := W c main_arg4
/-- The keys that device `c` prepared. -/
abbrev kW (c : Dev nD) : Vec F S4x1024x1024 .bf16 := W c main_v16
/-- The values that device `c` prepared. -/
abbrev vW (c : Dev nD) : Vec F S4x1024x1024 .bf16 := W c main_v18
/-- What device `c`'s body leaves as the result. -/
abbrev resW (c : Dev nD) : Vec F S1x1024x1024 .bf16 := resV (qW W) (oW W) (xW W c) (kW W c) (vW W c) c

/-! ## The ghost state around the region -/

/-- Every semaphore of the kernel's own, the six departures and then the six arrivals. -/
theorem scells (c : Dev nD) (Φ : GSem nD τ sig → sProp 𝕄) :
    bigSep Finset.univ (fun k : Fin 12 => Φ ((c : Thread nD τ), osem k))
      = iprop(Φ (sCell 0 c) ∗ Φ (sCell 1 c) ∗ Φ (sCell 2 c) ∗ Φ (sCell 3 c) ∗ Φ (sCell 4 c) ∗ Φ (sCell 5 c)
        ∗ Φ (rCell 0 c) ∗ Φ (rCell 1 c) ∗ Φ (rCell 2 c) ∗ Φ (rCell 3 c) ∗ Φ (rCell 4 c) ∗ Φ (rCell 5 c)) :=
  bigSep_univ_eq_bigSepL [(0 : Fin 12), 1, 2, 3, 4, 5, 6, 7, 8, 9, 10, 11] (by decide) (by decide) _

/-- A family over the six copies, one by one. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- The tokens of the two barrier duties that device `c` pays. -/
def barToks (c : Dev nD) : sProp 𝕄 := iprop(dutyTok ER (barCell (nb false c)) 0 true ∗ dutyTok ER (barCell (nb true c)) 0 false)
/-- The tokens of the duties that device `c` pays by its copies. -/
def copyToks (c : Dev nD) : sProp 𝕄 :=
  bigSep Finset.univ fun i : Fin 6 => iprop(dutyTok ER (sCell i c) 0 false ∗ dutyTok ER (rCell i (nb (dir i) c)) 0 false)
/-- What device `c` may count on being paid. -/
def creds (c : Dev nD) : sProp 𝕄 :=
  iprop(cred (tallyAt (barCell c) () 2) ∗ bigSep Finset.univ fun i : Fin 6 => cred (tallyAt (rCell i c) () N))
/-- What device `c` keeps of the launch until its region: its barrier position, the rights to open its own cells, the tokens of its duties. -/
def linear (c : Dev nD) : sProp 𝕄 :=
  iprop(atPos ER (barCell c) 0 ∅ 0 ∗ (bigSep Finset.univ fun k : Fin 12 => openTok ER ((c : Thread nD τ), osem k)) ∗ barToks c ∗ copyToks c)
/-- What enters the region. -/
def Tk (c : Dev nD) : sProp 𝕄 := iprop((∃ κ, recs (qW W) (oW W) κ ∗ linear c) ∗ creds c)
/-- The same with the kernel's own cells opened. -/
def Xk (c : Dev nD) : sProp 𝕄 :=
  iprop(levAts L lv ∗ (∃ κ, recs (qW W) (oW W) κ ∗ atPos ER (barCell c) 0 ∅ 0
    ∗ (bigSep Finset.univ fun k : Fin 12 => iprop(atPos ER ((c : Thread nD τ), osem k) 0 ∅ 0 ∗ reached ER ((c : Thread nD τ), osem k) 0)) ∗ barToks c ∗ copyToks c)
    ∗ creds c)

theorem osem_mem (k : Fin 12) (c : Dev nD) : ((c : Thread nD τ), osem k) ∈ (barCells ∪ scCells : Finset (GSem nD τ sig)) :=
  Finset.mem_union_right _ (Finset.mem_map_of_mem scEmb (Finset.mem_univ (c, k)))

variable (A B : Dev nD → Vec F S1024x1024 .bf16) (κ : GSem nD τ sig → ℕ)

/-- The kernel's own counters, at zero, open the cells. -/
theorem open_all (c : Dev nD) :
    iprop(recs A B κ ∗ bigSep Finset.univ fun k : Fin 12 => iprop(openTok ER ((c : Thread nD τ), osem k) ∗ semVal ((c : Thread nD τ), osem k) 0))
      ⊢ |={Set.univ}=> bigSep Finset.univ fun k : Fin 12 => iprop(atPos ER ((c : Thread nD τ), osem k) 0 ∅ 0 ∗ reached ER ((c : Thread nD τ), osem k) 0) := by
  refine BIBase.Entails.trans ?_ (bigSep_fupd Finset.univ _)
  refine bigSep_with_persistent (R := recs A B κ) fun k _ => ?_
  iintro ⟨#HI, Ho, Hs⟩
  imod (cell_open ER (Rd A B) (g := ((c : Thread nD τ), osem k)) (Set.mem_univ (κ ((c : Thread nD τ), osem k)))) $$ [Ho Hs] with ⟨Ha, #Hr⟩
  · isplitr; · iapply (inv_at A B κ (osem_mem k c)); iexact HI
    isplitl [Ho] <;> iassumption
  imodintro
  isplitl [Ha]; · iexact Ha
  iexact Hr

/-- One cell whose round is over gives its counter back, at zero. -/
theorem close_one (c : Dev nD) {g : GSem nD τ sig} (hg : g ∈ (barCells ∪ scCells : Finset (GSem nD τ sig))) :
    iprop(recs A B κ ∗ over g) ⊢ (|={Set.univ}=> semVal g 0 : sProp 𝕄) := by
  iintro ⟨#HI, H⟩
  iapply (Rounds.cell_close ER (Rd A B) (κ := κ g) (g := g) (R := 0 + 1) (Set.mem_univ _) (fun h => h) (fun r hr => duties_later A B g r hr))
  isplitr; · iapply (inv_at A B κ hg); iexact HI
  iexact H

/-- So do all of the kernel's own. -/
theorem close_all (c : Dev nD) :
    iprop(recs A B κ ∗ bigSep Finset.univ fun k : Fin 12 => over ((c : Thread nD τ), osem k))
      ⊢ (|={Set.univ}=> Pipeline.ownSems0 osem c : sProp 𝕄) := by
  unfold Pipeline.ownSems0
  refine BIBase.Entails.trans ?_ (bigSep_fupd Finset.univ _)
  exact bigSep_with_persistent (R := recs A B κ) fun k _ => close_one A B κ c (osem_mem k c)

/-! ## The proof data of the region -/

theorem any_whole (b : Ref sig .tc) (c : Dev nD) :
    (any (Memref.whole b) c : sProp 𝕄) = iprop(∃ f : Buf (Elt F) ((c : Thread nD τ).loc b), ((c : Thread nD τ).loc b) ↦{fullShare} f) := by
  unfold any
  rw [View.set_whole]

/-- What the invariant says before the body's one point and after it. -/
def inv0 (c : Dev nD) : sProp 𝕄 := iprop(Xk W c ∗ Pipeline.scopedRest spec0 c ∗ ∃ r, prngReg c r)
def inv1 (c : Dev nD) : sProp 𝕄 :=
  iprop((semVal (barCell c) 0 ∗ Pipeline.ownSems0 osem c) ∗ Pipeline.scopedRest spec0 c ∗ ∃ r, prngReg c r)

/-- The region's data: the windows' arrays as the host operations leave them, the result's as the body writes it. -/
def dat0 (c : Dev nD) : Dat τ (Elt F) Unit ℕ UU ℕ cfg0 c where
  A w := W c (Proc.devRef .tc (Pipeline.arrRef spec0 w))
  after w := match w with
    | 0 => fun _ => xW W c | 1 => fun _ => qW W c | 2 => fun _ => oW W c | 3 => fun _ => kW W c | 4 => fun _ => vW W c
    | 5 => fun _ => resW W c | ⟨_ + 6, h⟩ => absurd h (Nat.not_lt.2 (Nat.le_add_left _ _))
  Φ t := if t.val = 0 then inv0 W c else inv1 c
  q _ := fullShare
  owed t := if t.val = 0 then O₀ c else 0

def pdats : (p : Fin 1) → (c : Dev nD) → Dat τ (Elt F) Unit ℕ UU ℕ (Pipeline.pin (pcfgs (F := F)) adm p) c
  | 0 => dat0 W

theorem owed_first (c : Dev nD) : (dat0 (F := F) W c).owed t0_0.castSucc = O₀ c := by
  show (if (t0_0.castSucc : Fin (cfg0.N + 1)).val = 0 then O₀ c else 0) = O₀ c; exact if_pos rfl
theorem owed_last (c : Dev nD) : (pdats (F := F) W 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat0 (F := F) W c).owed t = O) :
    debt c O ⊢ ((dat0 W c).owesAt () t : sProp 𝕄) := by
  unfold Dat.owesAt Pipeline.owesWithin Dat.bound
  rw [h0]
  iintro ⟨%w, HO⟩
  iexists w
  isplitr; · ipureintro; exact fun _ _ => Or.inl trivial
  iexact HO
theorem owesAt_elim (c : Dev nD) (t : Fin (cfg0.N + 1)) (O : CellTallies nD τ sig Unit) (h0 : (dat0 (F := F) W c).owed t = O) :
    ((dat0 W c).owesAt () t : sProp 𝕄) ⊢ debt c O := by
  unfold Dat.owesAt Pipeline.owesWithin
  rw [h0]
  iintro ⟨%w, -, HO⟩
  iexists w; iexact HO

/-- The block of a window is its whole array. -/
theorem emb_self (w : Fin 6) (t : Fin cfg0.N) (x : ((cfg0.win w).xblock (cfg0.grid.coords t)).Idx) (a : Fin (cfg0.win w).shape.rank) :
    (((cfg0.win w).rect t).emb x a : ℕ) = x a := by
  rw [Pipeline.Window.rect_emb_val_off]
  revert x a
  fin_cases w <;> (intro x a; show 0 * _ + _ = _; omega)

/-- What a fetch brings is the array itself. -/
theorem before0 (c : Dev nD) (d) : (dat0 W c).before 0 t0_0 d = xW W c := by
  rw [Dat.before_fetched _ _ _ (fetch0_0 _)]
  show ((cfg0.win 0).blk t0_0).view.read (Elt F) (xW W c) = xW W c
  generalize xW W c = X
  exact funext fun x => congrArg X (funext fun a => Fin.ext (emb_self 0 t0_0 x a))
theorem before1 (c : Dev nD) (d) : (dat0 W c).before 1 t0_0 d = qW W c := by
  rw [Dat.before_fetched _ _ _ (fetch0_1 _)]
  show ((cfg0.win 1).blk t0_0).view.read (Elt F) (qW W c) = qW W c
  generalize qW W c = X
  exact funext fun x => congrArg X (funext fun a => Fin.ext (emb_self 1 t0_0 x a))
theorem before2 (c : Dev nD) (d) : (dat0 W c).before 2 t0_0 d = oW W c := by
  rw [Dat.before_fetched _ _ _ (fetch0_2 _)]
  show ((cfg0.win 2).blk t0_0).view.read (Elt F) (oW W c) = oW W c
  generalize oW W c = X
  exact funext fun x => congrArg X (funext fun a => Fin.ext (emb_self 2 t0_0 x a))
theorem before3 (c : Dev nD) (d) : (dat0 W c).before 3 t0_0 d = kW W c := by
  rw [Dat.before_fetched _ _ _ (fetch0_3 _)]
  show ((cfg0.win 3).blk t0_0).view.read (Elt F) (kW W c) = kW W c
  generalize kW W c = X
  exact funext fun x => congrArg X (funext fun a => Fin.ext (emb_self 3 t0_0 x a))
theorem before4 (c : Dev nD) (d) : (dat0 W c).before 4 t0_0 d = vW W c := by
  rw [Dat.before_fetched _ _ _ (fetch0_4 _)]
  show ((cfg0.win 4).blk t0_0).view.read (Elt F) (vW W c) = vW W c
  generalize vW W c = X
  exact funext fun x => congrArg X (funext fun a => Fin.ext (emb_self 4 t0_0 x a))

/-- The write back of the one point leaves the result's array as the body's buffer. -/
theorem result_arr (c : Dev nD) : (dat0 W c).arrAt 5 cfg0.N = resW W c := by
  refine Dat.arrAt_eq_of_emb (dat0 W c) 5 (resW W c) (fun t _ y => ?_) ?_
  · exact congrArg (resW W c) (funext fun a => Fin.ext (emb_self 5 t y a).symm)
  · intro i
    exact ⟨t0_0, flush0_5 _, Finset.mem_map.mpr ⟨i, Finset.mem_univ _, funext fun a => Fin.ext (emb_self 5 t0_0 i a)⟩⟩

/-- The body starts from what entered the region. -/
theorem ringIn_intro (c : Dev nD) : iprop(debt c (O₀ c) ∗ atPos ER (barCell c) 0 ∅ 0
    ∗ (bigSep Finset.univ fun k : Fin 12 => iprop(atPos ER ((c : Thread nD τ), osem k) 0 ∅ 0 ∗ reached ER ((c : Thread nD τ), osem k) 0))
    ∗ barToks c ∗ copyToks c ∗ creds c
    ∗ (∃ f : Buf (Elt F) ((c : Thread nD τ).loc cc0_scratch0), ((c : Thread nD τ).loc cc0_scratch0) ↦{fullShare} f)) ⊢ (ringIn c : sProp 𝕄) := by
  rw [scells c (fun g => iprop(atPos ER g 0 ∅ 0 ∗ reached ER g 0))]
  unfold barToks copyToks creds ringIn outRes inRes
  rw [six, six]
  iintro ⟨HO, HaB, ⟨⟨Ha0, #Hs0⟩, ⟨Ha1, #Hs1⟩, ⟨Ha2, #Hs2⟩, ⟨Ha3, #Hs3⟩, ⟨Ha4, #Hs4⟩, ⟨Ha5, #Hs5⟩, ⟨Hb0, #Hr0⟩, ⟨Hb1, #Hr1⟩, ⟨Hb2, #Hr2⟩, ⟨Hb3, #Hr3⟩, ⟨Hb4, #Hr4⟩, ⟨Hb5, #Hr5⟩⟩,
    Htb, ⟨⟨Ht0, Hu0⟩, ⟨Ht1, Hu1⟩, ⟨Ht2, Hu2⟩, ⟨Ht3, Hu3⟩, ⟨Ht4, Hu4⟩, ⟨Ht5, Hu5⟩⟩, ⟨HcB, Hc0, Hc1, Hc2, Hc3, Hc4, Hc5⟩, Hf⟩
  ihave Hfr := (comm_split c) $$ Hf
  isplitl [HO]; · iexact HO
  isplitl [HcB]; · iexact HcB
  isplitl [HaB]; · iexact HaB
  isplitl [Htb]; · iexact Htb
  isplitr
  · isplitr; · iexact Hr0
    isplitr; · iexact Hr1
    isplitr; · iexact Hr2
    isplitr; · iexact Hr3
    isplitr; · iexact Hr4
    iexact Hr5
  isplitl [Ht0 Hu0 Ht1 Hu1 Ht2 Hu2 Ht3 Hu3 Ht4 Hu4 Ht5 Hu5]
  · isplitl [Ht0 Hu0]
    · isplitl [Ht0]; · iexact Ht0
      isplitr; · iexact Hs0
      iexact Hu0
    isplitl [Ht1 Hu1]
    · isplitl [Ht1]; · iexact Ht1
      isplitr; · iexact Hs1
      iexact Hu1
    isplitl [Ht2 Hu2]
    · isplitl [Ht2]; · iexact Ht2
      isplitr; · iexact Hs2
      iexact Hu2
    isplitl [Ht3 Hu3]
    · isplitl [Ht3]; · iexact Ht3
      isplitr; · iexact Hs3
      iexact Hu3
    isplitl [Ht4 Hu4]
    · isplitl [Ht4]; · iexact Ht4
      isplitr; · iexact Hs4
      iexact Hu4
    isplitl [Ht5]; · iexact Ht5
    isplitr; · iexact Hs5
    iexact Hu5
  isplitl [Ha0 Ha1 Ha2 Ha3 Ha4 Ha5]
  · isplitl [Ha0]; · iexact Ha0
    isplitl [Ha1]; · iexact Ha1
    isplitl [Ha2]; · iexact Ha2
    isplitl [Ha3]; · iexact Ha3
    isplitl [Ha4]; · iexact Ha4
    iexact Ha5
  isplitl [Hc0 Hc1 Hc2 Hc3 Hc4 Hc5 Hb0 Hb1 Hb2 Hb3 Hb4 Hb5]
  · isplitl [Hc0 Hb0]; · isplitl [Hc0] <;> iassumption
    isplitl [Hc1 Hb1]; · isplitl [Hc1] <;> iassumption
    isplitl [Hc2 Hb2]; · isplitl [Hc2] <;> iassumption
    isplitl [Hc3 Hb3]; · isplitl [Hc3] <;> iassumption
    isplitl [Hc4 Hb4]; · isplitl [Hc4] <;> iassumption
    isplitl [Hc5] <;> iassumption
  iexact Hfr

/-- The body ends with the counters at zero and the scratch whole. -/
theorem ringOut_elim (c : Dev nD) : iprop(recs A B κ ∗ ringOut c) ⊢ (|={Set.univ}=> iprop(debt c 0 ∗ semVal (barCell c) 0 ∗ Pipeline.ownSems0 osem c
    ∗ (∃ f : Buf (Elt F) ((c : Thread nD τ).loc cc0_scratch0), ((c : Thread nD τ).loc cc0_scratch0) ↦{fullShare} f)) : sProp 𝕄) := by
  unfold ringOut
  iintro ⟨#HI, HO, HoB, ⟨Hr0, Hr1, Hr2, Hr3, Hr4, Hr5⟩, ⟨Hs0, Hs1, Hs2, Hs3, Hs4, Hs5⟩, Hfr⟩
  imod (close_one A B κ c (bar_mem c)) $$ [HoB] with HB
  · isplitr; · iexact HI
    iexact HoB
  imod (close_all A B κ c) $$ [Hr0 Hr1 Hr2 Hr3 Hr4 Hr5 Hs0 Hs1 Hs2 Hs3 Hs4 Hs5] with HS
  · isplitr; · iexact HI
    rw [scells c (fun g => over g)]
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hr0]; · iexact Hr0
    isplitl [Hr1]; · iexact Hr1
    isplitl [Hr2]; · iexact Hr2
    isplitl [Hr3]; · iexact Hr3
    isplitl [Hr4]; · iexact Hr4
    iexact Hr5
  imodintro
  isplitl [HO]; · iexact HO
  isplitl [HB]; · iexact HB
  isplitl [HS]; · iexact HS
  iapply (comm_join c); iexact Hfr

/-- The region's body does what the data say. -/
theorem body0 (c : Dev nD) : BodyObligation (dat0 (F := F) W c) defs₀ 𝒱₀ () Set.univ := fun t => by
  obtain rfl := fin_N0 t
  rw [bigSep_W0, bigSep_W0]
  rw [show (dat0 W c).Φ t0_0.castSucc = inv0 W c from rfl, show (dat0 W c).Φ t0_0.succ = inv1 c from rfl]
  simp only [before0, before1, before2, before3, before4, owns_eq_rep]
  unfold inv0 inv1 Xk
  rw [scopedRest0_eq]
  iintro ⟨⟨⟨#Hlev, ⟨%κ, #HI, HaB, Hsc, Htb, Htc⟩, Hcr⟩, ⟨Hf, H7, H8, H9⟩, Hreg⟩, HO, ⟨%d0, H0⟩, ⟨%d1, H1⟩, ⟨%d2, H2⟩, ⟨%d3, H3⟩, ⟨%d4, H4⟩, ⟨%d5, H5⟩⟩
  ihave HO' := (owesAt_elim W c _ (O₀ c) (owed_first W c)) $$ HO
  iapply (Idealize.SL.Sem.wp_fupd (M := 𝕄) _ _)
  iapply (body_run (qW W) (oW W) κ c _ _ _ _ _ _ _ _ _ _ _ _ _ _ _ _ _ _ (xW W c) (kW W c) (vW W c) _)
  isplitr; · iexact HI
  isplitr; · iexact Hlev
  isplitl [HO' HaB Hsc Htb Htc Hcr Hf]
  · iapply (ringIn_intro c)
    isplitl [HO']; · iexact HO'
    isplitl [HaB]; · iexact HaB
    isplitl [Hsc]; · iexact Hsc
    isplitl [Htb]; · iexact Htb
    isplitl [Htc]; · iexact Htc
    isplitl [Hcr]; · iexact Hcr
    iexact Hf
  isplitl [H0 H1 H2 H3 H4 H5 H7 H8 H9]
  · isplitl [H0]; · iexact H0
    isplitl [H1]; · iexact H1
    isplitl [H2]; · iexact H2
    isplitl [H3]; · iexact H3
    isplitl [H4]; · iexact H4
    isplitl [H5]; · iexists _; iexact H5
    rw [any_whole, any_whole, any_whole]
    isplitl [H7]; · iexact H7
    isplitl [H8]; · iexact H8
    iexact H9
  iintro ⟨HR, H0, H1, H2, H3, H4, H5, H7, H8, H9⟩
  ihave H7 := (Entails.of_eq (any_whole cc0_scratch1 c)) $$ H7
  ihave H8 := (Entails.of_eq (any_whole cc0_scratch2 c)) $$ H8
  ihave H9 := (Entails.of_eq (any_whole cc0_scratch3 c)) $$ H9
  imod (ringOut_elim (qW W) (oW W) κ c) $$ [HR] with ⟨HO, HB, HS, Hf⟩
  · isplitr; · iexact HI
    iexact HR
  imodintro
  isplitl [HB HS Hf H7 H8 H9 Hreg]
  · isplitl [HB HS]; · isplitl [HB] <;> iassumption
    isplitl [Hf H7 H8 H9]
    · isplitl [Hf]; · iexact Hf
      isplitl [H7]; · iexact H7
      isplitl [H8]; · iexact H8
      iexact H9
    iexact Hreg
  isplitl [HO]; · iapply (owesAt_intro W c t0_0.succ 0 (owed_last W c)); iexact HO
  isplitl [H0]; · iexact H0
  isplitl [H1]; · iexact H1
  isplitl [H2]; · iexact H2
  isplitl [H3]; · iexact H3
  isplitl [H4]; · iexact H4
  iexact H5

/-! ## The region's record -/

/-- The own semaphores are opened at the region's entry. -/
theorem hopen (c : Dev nD) : iprop(Tk W c ∗ Pipeline.ownSems0 osem c ∗ levAts L lv) ⊢ (|={Set.univ}=> Xk W c : sProp 𝕄) := by
  unfold Tk Xk linear
  iintro ⟨⟨⟨%κ, #HI, HaB, Hop, Htb, Htc⟩, Hcr⟩, Hs, #Hlev⟩
  imod (open_all (qW W) (oW W) κ c) $$ [Hop Hs] with Hsc
  · isplitr; · iexact HI
    rw [bigSep_sep']
    isplitl [Hop]; · iexact Hop
    unfold Pipeline.ownSems0
    iexact Hs
  imodintro
  isplitr; · iexact Hlev
  isplitl [HaB Hsc Htb Htc]
  · iexists κ
    isplitr; · iexact HI
    isplitl [HaB]; · iexact HaB
    isplitl [Hsc]; · iexact Hsc
    isplitl [Htb] <;> iassumption
  iexact Hcr

/-- A barrier due sits above the staging cells' level. -/
theorem above_dueB (b : Bool) (c : Dev nD) : AboveTc 0 (dueB b c) := by
  intro g u hg
  unfold dueB at hg
  rw [tallyAt_apply] at hg
  by_cases h : g = barCell (nb b c) ∧ u = ()
  · rw [h.1]; exact ⟨L_tc _ _, Nat.zero_lt_one⟩
  · rw [if_neg h] at hg; exact absurd hg (Nat.lt_irrefl 0)

/-- Everything a device may owe sits above the staging cells' level. -/
theorem cut (c : Dev nD) (t : Fin (cfg0.N + 1)) (g : GSem nD τ sig) (i : Unit) (h : 0 < (dat0 (F := F) W c).owed t g i) : i ∈ L g ∧ (0 : ℕ) < lv g i := by
  have e : (dat0 (F := F) W c).owed t = if t.val = 0 then O₀ c else 0 := rfl
  rw [e] at h
  split at h
  · have hi : ∀ i : Fin 6, AboveTc 0 (due i c) := fun i => above_due i c (by rw [lv_r]; split <;> decide)
    obtain ⟨hL, hl⟩ := ((((((((hi 5).add (hi 4)).add (hi 3)).add (hi 1)).add (hi 2)).add (hi 0)).add (above_dueB true c)).add (above_dueB false c)) g i h
    exact ⟨by rw [hL]; exact Finset.mem_singleton_self _, hl⟩
  · exact absurd h (Nat.lt_irrefl 0)

/-- The buffers that are no window's array. -/
abbrev restRefs : Finset (DevRef τ sig) := Pipeline.ucRefs τ sig \ Pipeline.arrRefs (τ := τ) spec0

variable (W' : Dev nD → Valuation τ sig (Elt F)) (hne : ∀ c (r : DevRef τ sig), r ≠ Proc.devRef .tc main_v19 → W' c r = W c r)
  (heq : ∀ c, W' c main_v19 = resW W c)

/-- The staging buffers' semaphores are none of the kernel's own. -/
theorem stage_lt : ∀ (w : Fin 6) (s : Fin (win0 w).nbuf), ((win0 w).sem s).val < 12 := by decide

include hne heq in
/-- After the region the windows' arrays are as `W'` says. -/
theorem arr_end (c : Dev nD) (w : Fin 6) : (dat0 W c).arrAt w cfg0.N = W' c (Proc.devRef .tc (Pipeline.arrRef spec0 w)) := by
  fin_cases w
  · exact ((dat0 W c).arrAt_in 0 rfl _).trans (hne c _ (by decide)).symm
  · exact ((dat0 W c).arrAt_in 1 rfl _).trans (hne c _ (by decide)).symm
  · exact ((dat0 W c).arrAt_in 2 rfl _).trans (hne c _ (by decide)).symm
  · exact ((dat0 W c).arrAt_in 3 rfl _).trans (hne c _ (by decide)).symm
  · exact ((dat0 W c).arrAt_in 4 rfl _).trans (hne c _ (by decide)).symm
  · exact (result_arr W c).trans (heq c).symm

set_option backward.isDefEq.respectTransparency.types false in
/-- The region's record: entered with the buffers at `W`, left with them at `W'`. -/
def reg0 : Pipeline.RegionSeg (pcfgs (F := F)) adm (pdats W) () defs₀ 𝒱₀ L lv 0 :=
  Pipeline.RegionSeg.ofTalk (pcfgs (F := F)) adm (pdats W) () defs₀ 𝒱₀ L lv 0 osem (by decide : Pipeline.OwnSemFacts spec0 osem)
    ∅ restRefs (Finset.empty_subset _) launch0.toP rfl (fun c => (body0 W c).loose)
    (fun _ => 0) O₀ (fun c => (owed_first W c).trans (zero_add _).symm) (owed_last W) (fun _ => rfl) (fun c w => by show (if _ then fullShare else fullShare) = fullShare; exact ite_self _)
    W W' (fun c b hb => hne c b (fun h => (Finset.mem_sdiff.mp (Finset.mem_sdiff.mp hb).1).2 (by rw [h]; decide)))
    (Tk W) (fun c => semVal (barCell c) 0) (Xk W) (fun c => semVal (barCell c) 0) (hopen W)
    (fun c => by
      show _ ⊢ inv0 W c
      unfold inv0
      iintro ⟨Hs, Hp, -, HX⟩
      isplitl [HX]; · iexact HX
      isplitl [Hs]; · iexact Hs
      iexact Hp)
    (fun c => by
      show inv1 c ⊢ _
      unfold inv1
      iintro ⟨⟨HB, HS⟩, Hs, Hp⟩
      isplitl [Hs]; · iexact Hs
      isplitl [Hp]; · iexact Hp
      isplitr; · unfold StableHlo.held; rw [bigSep_empty]; iempintro
      isplitl [HS] <;> iassumption)
    (fun c => by iintro H; imodintro; iexact H)
    (fun _ => 0)
    ⟨fun c w s => by rw [L_tc]; exact Finset.mem_singleton_self _, fun c w s => le_of_eq (if_pos (stage_lt w s)), fun c t g i h => cut W c t g i h⟩
    (fun _ => iprop(emp))
    (fun _ _ => rfl) (arr_end W W' hne heq)

/-- What rides beside the buffers up to the region, and after it. -/
def E0 (c : Dev nD) : sProp 𝕄 := iprop((∃ r, prngReg c r) ∗ Tk W c ∗ debt c (O₀ c))
def E1 (c : Dev nD) : sProp 𝕄 := iprop((∃ r, prngReg c r) ∗ semVal (barCell c) 0 ∗ debt c 0)

theorem arrRefs_sub : Pipeline.arrRefs (τ := τ) spec0 ⊆ Pipeline.ucRefs τ sig := by decide

theorem reg0_pre (c : Dev nD) : iprop(StableHlo.held (c : Thread nD τ) (Pipeline.ucRefs τ sig) (W c) ∗ E0 W c) ⊢ (reg0 W W' hne heq).pre c := by
  show _ ⊢ iprop(StableHlo.held (c.tc : Thread nD τ) (Pipeline.arrRefs (τ := τ) spec0) (W c) ∗ (∃ r, prngReg c r)
    ∗ (StableHlo.held (c.tc : Thread nD τ) restRefs (W c) ∗ emp) ∗ Tk W c ∗ ∃ Wd, owes (c : Thread nD τ) (0 + O₀ c) Wd)
  rw [zero_add, StableHlo.held_sub_split (c.tc : Thread nD τ) arrRefs_sub (W c)]
  unfold E0
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg0_post (c : Dev nD) : (reg0 W W' hne heq).post c ⊢ iprop(StableHlo.held (c : Thread nD τ) (Pipeline.ucRefs τ sig) (W' c) ∗ E1 c) := by
  show iprop(StableHlo.held (c.tc : Thread nD τ) (Pipeline.arrRefs (τ := τ) spec0) (W' c) ∗ (∃ r, prngReg c r)
    ∗ (StableHlo.held (c.tc : Thread nD τ) restRefs (W' c) ∗ emp) ∗ semVal (barCell c) 0 ∗ ∃ Wd, owes (c : Thread nD τ) 0 Wd) ⊢ _
  rw [StableHlo.held_sub_split (c.tc : Thread nD τ) arrRefs_sub (W' c)]
  unfold E1
  iintro ⟨Ha, Hp, ⟨Hr, -⟩, HB, HO⟩
  isplitl [Ha Hr]; · isplitl [Ha] <;> iassumption
  isplitl [Hp]; · iexact Hp
  isplitl [HB] <;> iassumption

end Cert.KernelIdeal.Ring

end

end
-- ==== Proof.Ring.Launch.lean ====
/- The launch: every cell's invariant made, the tokens and the credit dealt to the devices, and the run of the whole
   program from any memory. -/
module

public import proofs.«01_k».proof.Proof.Ring.Region
public import Idealize.ShloMosaic.Lib.Quiescent

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg Dat)
open Cert.KernelIdeal.Gen

variable {F : FTy → Type} [FloatOps F]

local notation "𝕄" => MT nD τ sig Unit (Elt F) ℕ UU ℕ

/-- The pipeline's component of the user algebra. -/
abbrev EP : Emb (UR sig nD τ) (MT nD τ sig Unit (Elt F) ℕ UU ℕ) := embL

/-! ## The tokens -/

/-- Going to one side, as a permutation of the devices. -/
def ring (b : Bool) : Dev nD ≃ Dev nD := ⟨nb b, nb (!b), nb_nb b, nb_nb' b⟩

/-- The duty tokens of one device's cells: the two of its barrier cell, then one of each cell of its own. -/
def tokOf (c : Dev nD) : Bool ⊕ Fin 12 → GSem nD τ sig × ℕ × Bool
  | .inl b => (barCell c, 0, b)
  | .inr k => (((c : Thread nD τ), osem k), 0, false)

theorem tokOf_inj (ck ck' : Dev nD × (Bool ⊕ Fin 12)) (h : tokOf ck.1 ck.2 = tokOf ck'.1 ck'.2) : ck = ck' := by
  obtain ⟨c, k⟩ := ck
  obtain ⟨c', k'⟩ := ck'
  rcases k with b | k <;> rcases k' with b' | k'
  · obtain rfl : c = c' := congrArg (fun t : GSem nD τ sig × ℕ × Bool => t.1.1.1) h
    obtain rfl : b = b' := congrArg (fun t : GSem nD τ sig × ℕ × Bool => t.2.2) h
    rfl
  · exact absurd (congrArg (fun t : GSem nD τ sig × ℕ × Bool => t.1.2) h).symm (osem_ne_bar k')
  · exact absurd (congrArg (fun t : GSem nD τ sig × ℕ × Bool => t.1.2) h) (osem_ne_bar k)
  · obtain rfl : c = c' := congrArg (fun t : GSem nD τ sig × ℕ × Bool => t.1.1.1) h
    obtain rfl : k = k' := osem_inj (congrArg (fun t : GSem nD τ sig × ℕ × Bool => t.1.2) h)
    rfl

/-- The tokens by device and duty. -/
def tokEmb : Dev nD × (Bool ⊕ Fin 12) ↪ GSem nD τ sig × ℕ × Bool := ⟨fun ck => tokOf ck.1 ck.2, fun ck ck' h => tokOf_inj ck ck' h⟩

/-- Every duty's token. -/
def allToks : Finset (GSem nD τ sig × ℕ × Bool) := Finset.univ.map tokEmb

/-- Six resources and a seventh, bracketed otherwise. -/
theorem regroup (a b c d e f r : sProp 𝕄) : iprop(a ∗ b ∗ c ∗ d ∗ e ∗ f ∗ r) = iprop((a ∗ b ∗ c ∗ d ∗ e ∗ f) ∗ r) := by
  refine BI.Entails.antisymm ?_ ?_
  · show iprop(a ∗ b ∗ c ∗ d ∗ e ∗ f ∗ r) ⊢ iprop((a ∗ b ∗ c ∗ d ∗ e ∗ f) ∗ r)
    iintro ⟨H0, H1, H2, H3, H4, H5, Hr⟩
    isplitr [Hr]
    · isplitl [H0]; · iexact H0
      isplitl [H1]; · iexact H1
      isplitl [H2]; · iexact H2
      isplitl [H3]; · iexact H3
      isplitl [H4]; · iexact H4
      iexact H5
    iexact Hr
  · show iprop((a ∗ b ∗ c ∗ d ∗ e ∗ f) ∗ r) ⊢ iprop(a ∗ b ∗ c ∗ d ∗ e ∗ f ∗ r)
    iintro ⟨⟨H0, H1, H2, H3, H4, H5⟩, Hr⟩
    isplitl [H0]; · iexact H0
    isplitl [H1]; · iexact H1
    isplitl [H2]; · iexact H2
    isplitl [H3]; · iexact H3
    isplitl [H4]; · iexact H4
    isplitl [H5]; · iexact H5
    iexact Hr

/-- The tokens, cell by cell, are those that each device pays with. -/
theorem toks_dealt : bigSep allToks (fun x => (dutyTok ER x.1 x.2.1 x.2.2 : sProp 𝕄))
    ⊢ iprop((bigSep Finset.univ fun c : Dev nD => barToks c) ∗ bigSep Finset.univ fun c : Dev nD => copyToks c) := by
  unfold allToks
  rw [bigSep_map, bigSep_univ_prod]
  have hcell (c : Dev nD) : bigSep Finset.univ (fun b : Bool ⊕ Fin 12 => (dutyTok ER (tokOf c b).1 (tokOf c b).2.1 (tokOf c b).2.2 : sProp 𝕄))
      = iprop((dutyTok ER (barCell c) 0 true ∗ dutyTok ER (barCell c) 0 false)
        ∗ (bigSep Finset.univ fun i : Fin 6 => dutyTok ER (sCell i c) 0 false) ∗ bigSep Finset.univ fun i : Fin 6 => dutyTok ER (rCell i c) 0 false) := by
    rw [bigSep_univ_sum]
    have h1 : bigSep Finset.univ (fun b : Bool => (dutyTok ER (tokOf c (.inl b)).1 (tokOf c (.inl b)).2.1 (tokOf c (.inl b)).2.2 : sProp 𝕄))
        = iprop(dutyTok ER (barCell c) 0 true ∗ dutyTok ER (barCell c) 0 false) :=
      bigSep_univ_eq_bigSepL [true, false] (by decide) (by decide) _
    have h2 : bigSep Finset.univ (fun k : Fin 12 => (dutyTok ER (tokOf c (.inr k)).1 (tokOf c (.inr k)).2.1 (tokOf c (.inr k)).2.2 : sProp 𝕄))
        = iprop((bigSep Finset.univ fun i : Fin 6 => dutyTok ER (sCell i c) 0 false) ∗ bigSep Finset.univ fun i : Fin 6 => dutyTok ER (rCell i c) 0 false) := by
      refine (scells c (fun g => dutyTok ER g 0 false)).trans ?_
      rw [six, six]
      exact regroup _ _ _ _ _ _ _
    rw [h1, h2]
    rfl
  refine (Entails.of_eq (bigSep_congr (s := Finset.univ) fun c _ => hcell c)).trans ?_
  unfold barToks copyToks
  simp only [bigSep_sep']
  rw [bigSep_univ_equiv (ring false) (fun c : Dev nD => (dutyTok ER (barCell c) 0 true : sProp 𝕄)),
    bigSep_univ_equiv (ring true) (fun c : Dev nD => (dutyTok ER (barCell c) 0 false : sProp 𝕄)),
    bigSep_univ_comm (fun (c : Dev nD) (i : Fin 6) => (dutyTok ER (rCell i c) 0 false : sProp 𝕄)),
    bigSep_univ_comm (fun (c : Dev nD) (i : Fin 6) => (dutyTok ER (rCell i (nb (dir i) c)) 0 false : sProp 𝕄)),
    bigSep_congr (s := Finset.univ) fun (i : Fin 6) _ => bigSep_univ_equiv (ring (dir i)) (fun c : Dev nD => (dutyTok ER (rCell i c) 0 false : sProp 𝕄))]
  exact BI.Entails.refl _

/-! ## The credit -/

/-- What a device waits for in all. -/
def dueTo (c : Dev nD) : CellTallies nD τ sig Unit :=
  tallyAt (barCell c) () 2 + (tallyAt (rCell 0 c) () N + (tallyAt (rCell 1 c) () N + (tallyAt (rCell 2 c) () N + (tallyAt (rCell 3 c) () N
    + (tallyAt (rCell 4 c) () N + tallyAt (rCell 5 c) () N)))))

theorem sum_ring (b : Bool) (sm : SemLoc sig) (n : ℕ) :
    (∑ d : Dev nD, tallyAt ((nb b d : Thread nD τ), sm) () n) = ∑ d : Dev nD, (tallyAt ((d : Thread nD τ), sm) () n : CellTallies nD τ sig Unit) :=
  (ring b).sum_comp fun d => (tallyAt ((d : Thread nD τ), sm) () n : CellTallies nD τ sig Unit)

/-- What all devices owe is what all devices wait for. -/
theorem owed_eq_due : (∑ d : Dev nD, O₀ d) = ∑ d : Dev nD, dueTo d := by
  unfold O₀ oweR owe0 owe2 owe1 owe3 owe4 owe5 due dueB dueTo
  rw [show (2 : ℕ) = 1 + 1 from rfl]
  simp only [Finset.sum_add_distrib, sum_ring, ← tallyAt_add]
  unfold barCell rCell
  ac_rfl

theorem dueTo_core (d : Dev nD) (g : GSem nD τ sig) (h : dueTo d g ≠ 0) : g.1 = (d.tc : Thread nD τ) := by
  by_contra hc
  have hz (sm : SemLoc sig) (n : ℕ) : (tallyAt ((d : Thread nD τ), sm) () n : CellTallies nD τ sig Unit) g = 0 :=
    tallyAt_ne_cell (fun e => hc (congrArg Prod.fst e)) () n
  exact h (by unfold dueTo; simp only [Pi.add_apply, hz, add_zero])

/-- A device's launch credit covers its waits. -/
theorem creds_intro (c : Dev nD) : (Pipeline.launchCred O₀ c : sProp 𝕄) ⊢ creds c := by
  rw [Pipeline.launchCred_of_sum O₀ dueTo owed_eq_due dueTo_core c]
  unfold dueTo creds
  rw [six]
  refine (cred_add _ _).1.trans (sep_mono_right ?_)
  refine (cred_add _ _).1.trans (sep_mono_right ?_)
  refine (cred_add _ _).1.trans (sep_mono_right ?_)
  refine (cred_add _ _).1.trans (sep_mono_right ?_)
  refine (cred_add _ _).1.trans (sep_mono_right ?_)
  exact (cred_add _ _).1

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element: the pipeline's and the ring's. -/
def u₀ : UU := (initOf (Pipeline.cells cfgs cellOf_inj) (Pipeline.launchToks cfgs cellOf_inj), launchOf barCells scCells allToks)

/-- The ring's launch element, kept whole by device 0. -/
def G (c : Dev nD) : sProp 𝕄 := if c = 0 then BI.own (ER (launchOf barCells scCells allToks)) else iprop(emp)

theorem bigSep_G : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

variable (W : Dev nD → Valuation τ sig (Elt F)) (ρ : Dev nD → PrngReg)

/-- What a device gets of the launch beside the ring's ghost state. -/
def bundle (c : Dev nD) : sProp 𝕄 := iprop((∃ r, prngReg c r) ∗ creds c ∗ debt c (O₀ c))

theorem E0_intro (κ : GSem nD τ sig → ℕ) (c : Dev nD) : iprop(recs (qW W) (oW W) κ ∗ (linear c ∗ bundle c)) ⊢ E0 W c := by
  unfold bundle E0 Tk
  iintro ⟨#HR, Hl, Hp, Hc, HO⟩
  isplitl [Hp]; · iexact Hp
  isplitl [Hl Hc]
  · isplitl [Hl]
    · iexists κ
      isplitr; · iexact HR
      iexact Hl
    iexact Hc
  iexact HO

/-- What every device rides with is made at once. -/
theorem init :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E0 W) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ semVal (barCell c) 0 ∗ G c) : sProp 𝕄) := by
    rw [unscopedSems0_eq]
    unfold bundle
    iintro ⟨Hus, HO, Hcr, Hp, HG⟩
    isplitl [HO Hcr Hp]
    · isplitl [Hp]; · iexists (ρ c); iexact Hp
      isplitl [Hcr]; · iapply (creds_intro (F := F) c); iexact Hcr
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 12 => openTok ER ((c : Thread nD τ), osem k)) :=
    Entails.of_eq (by
      rw [bigSep_map, bigSep_univ_prod]
      rfl)
  refine (sep_mono_left (bigSep_mono fun c _ => hcore c)).trans ?_
  rw [bigSep_sep', bigSep_sep', bigSep_G]
  iintro ⟨⟨HB, Hv, Hu⟩, -⟩
  imod (Rounds.fund_launch ER (Rd (qW W) (oW W)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (qW W) (oW W) κ) (Φ := fun c => iprop(linear c ∗ bundle c)) fun c _ => E0_intro W κ c)
  isplitr
  · unfold recs
    isplitr; · iexact Hinv
    iexact Hr
  unfold linear
  simp only [bigSep_sep']
  isplitr [HB]
  · isplitl [Hat]; · iapply hat $$ Hat
    isplitl [Hopen]; · iapply hop $$ Hopen
    iapply (toks_dealt (F := F)) $$ Htok
  iexact HB

/-! ## The run -/

variable (m : (ℓ : Loc nD τ sig) → Buf (Elt F) ℓ)

/-- What the region leaves: the result as the body writes it. -/
def outs : Outs (F := F) := fun _ r c => if h : r = main_v19 then h ▸ resW (V4 m) c else V4 m c r

theorem V5_result (c : Dev nD) : V5 m (outs m) c main_v19 = resW (V4 m) c := by
  unfold V5
  rw [Function.update_self]
  unfold outs
  rw [dif_pos rfl]

theorem V5_rest (c : Dev nD) (r : DevRef τ sig) (h : r ≠ Proc.devRef .tc main_v19) : V5 m (outs m) c r = V4 m c r :=
  Function.update_of_ne h _ _

/-- What rides beside the buffers, before the region and after it. -/
def E (i : Fin 2) (c : Dev nD) : sProp 𝕄 := if i = 0 then E0 (V4 m) c else E1 c

/-- The program's one region. -/
def R0 := reg0 (V4 m) (V5 m (outs m)) (V5_rest m) (V5_result m)

/-- Where the program ends, on one device. -/
def ended (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v19) = resW (V4 m) c

set_option backward.isDefEq.respectTransparency.types false in
set_option maxHeartbeats 4000000 in
/-- From any memory with its counters at zero the program ends with each device's arguments as they were, its result
    `resW`, and every counter at zero. -/
theorem run_main : θ_run defs (onTc (τ := τ) (main (F := F))) ⟨m, fun _ => 0, ρ⟩
    (fun r => (∀ c : Dev nD, ended m c r.2) ∧ r.2.sem = fun _ => 0) := by
  refine Pipeline.θ_run_regions_kit_dev_sems (pcfgs (F := F)) adm (pdats (V4 m)) () cellOf_inj EP defs₀ 𝒱₀ L lv m ρ main
    (segs m 𝒱₀ L lv (E m) () (pdats (V4 m)) (R0 m))
    (fun c Q => by
      rewrite [main_chain c, Seg.run_eq_chain,
        show (segs m 𝒱₀ L lv (E m) () (pdats (V4 m)) (R0 m) c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V5 m (outs m) c) ∗ semVal (barCell c) 0))
    (hch := fun c => ⟨.rfl, .rfl, .rfl, .rfl, ?_, ?_⟩)
    (hinit := ?_) (QY := fun c s => ended m c s ∧ s.sem (barCell c) = 0)
    (hfin := fun c s' => ?_) (hQ := ?_)
  · -- the launch element splits into the pipeline's and the ring's
    unfold u₀
    iintro Hu
    ihave H := (ownU_pair _ _) $$ Hu
    icases H with ⟨HP, HX⟩
    imodintro
    isplitl [HP]; · iexact HP
    rw [bigSep_G]
    iexact HX
  · exact reg0_pre (V4 m) (V5 m (outs m)) (V5_rest m) (V5_result m) c
  · refine (reg0_post (V4 m) (V5 m (outs m)) (V5_rest m) (V5_result m) c).trans ?_
    unfold E1
    iintro ⟨Hh, -, Hs, HO⟩
    isplitl [Hh Hs]
    · isplitl [Hh] <;> iassumption
    iexact HO
  · -- the launch: the buffers outside the region are `held` at `V0`; the rest makes `E 0` on every device at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]
        exact BI.Entails.refl _
    iintro ⟨H, Hla⟩
    ihave H' := hsplit $$ H
    icases H' with ⟨Hh, Hr⟩
    imod (init (V4 m) ρ) $$ [Hr Hla] with HE
    · isplitl [Hr]; · iexact Hr
      iexact Hla
    imodintro
    rw [bigSep_sep']
    isplitl [Hh]; · iexact Hh
    iexact HE
  · -- the end: each argument and the result read off the last valuation, the barrier's counter off its cell
    unfold StableHlo.held
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have hread (r : Ref sig .tc) (hr : (Proc.devRef (τ := τ) .tc r).isScoped = false) :
          s'.mem.mem ((c.tc : Thread nD τ).loc r) = V5 m (outs m) c r :=
        h (Proc.devRef .tc r) (Finset.mem_filter.mpr ⟨StableHlo.devRef_mem_tcRefs r, by simpa using hr⟩)
      exact ⟨⟨⟨(hread main_arg0 (by decide)).trans (V5_main_arg0 m _ c), (hread main_arg1 (by decide)).trans (V5_main_arg1 m _ c),
        (hread main_arg2 (by decide)).trans (V5_main_arg2 m _ c), (hread main_arg3 (by decide)).trans (V5_main_arg3 m _ c),
        (hread main_arg4 (by decide)).trans (V5_main_arg4 m _ c)⟩, (hread main_v19 (by decide)).trans (V5_result m c)⟩, by simpa using hb⟩
    · iexact HSI
  · exact fun s h hs => ⟨fun c => (h c).1, sem_eq_zero hs fun c sm hsm => by
      obtain rfl := unscoped_eq sm hsm
      exact (h c).2⟩

end Cert.KernelIdeal.Ring

end

end
-- ==== Proof.Frames.lean ====
/- The frames of the three programs: each ends without fault, its arguments unchanged and every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Launch

@[expose] public section

noncomputable section

namespace Cert.Proof

open Idealize.ShloMosaic Idealize.SL.Sem

/-- The kernel's text over any floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Ring.run_main ρ m)

/-- The kernel over the extended reals. -/
theorem frame_ideal : Cert.quiescent_KernelIdeal := fun m ρ _ => frame_any (F := Ideal) m ρ

/-- The two programs' bodies are the same text. -/
theorem bodies_eq : @Cert.Kernel.defs₀ Bits _ _ = @Cert.KernelIdeal.defs₀ Bits _ _ := by
  unfold Cert.Kernel.defs₀ Cert.KernelIdeal.defs₀
  refine congrArg (Defs.onTc (Λ := Cert.Kernel.Λ₀)) ?_
  funext l a
  match l, a with
  | 0, (t, s) => rfl
  | ⟨n + 1, h⟩, _ => exact absurd h (by omega)

/-- And so are their tables of bodies. -/
theorem tables_eq : @Cert.Kernel.defs Bits _ _ = @Cert.KernelIdeal.defs Bits _ _ :=
  congrArg (Pipeline.defs Cert.Kernel.pcfgs) bodies_eq

/-- The kernel as printed: the same text, read over machine floats. -/
theorem frame_kernel : Cert.quiescent_Kernel := fun m ρ _ => by
  rw [tables_eq]
  exact frame_any (F := Bits) m ρ

/-- The reference over the extended reals, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end

end
-- ==== Proof.Value.KernelAt.lean ====
/- What one device computes, read at an index, over the extended reals. -/
module

public import proofs.«01_k».proof.Proof.Ring.Spec
public import Idealize.ShloMosaic.Lib.Pointwise

@[expose] public section

noncomputable section

namespace Cert.KernelIdeal.Ring

open Idealize.ShloMosaic
open Cert.KernelIdeal.Gen

/-- A product of two square tiles at row `r` and column `l` is the sum over the inner index. -/
theorem mmV_apply (x w : FVec Ideal S1024x1024 .bf16) (r l : Fin 1024) :
    mmV x w (ix2 r l) = ∑ k : Fin 1024, x (ix2 r k) * w (ix2 k l) := by
  pointwise [mmV]

/-- The query tile at row `r`, column `l`: the same sum; the cast to bfloat16 is the identity over the reals. -/
theorem qV_apply (x w : FVec Ideal S1024x1024 .bf16) (r l : Fin 1024) :
    qV x w (ix2 r l) = ∑ k : Fin 1024, x (ix2 r k) * w (ix2 k l) := by
  pointwise [qV, mmV]

/-- The literal by which the scores are scaled. -/
def scale : EReal := Ideal.ofBits .f32 0x3DB504F3#32

/-- Four sets of rows attended apart, at set `t`, place `y`, lane `d`: the sum of the values of the set with the normalised weights of their keys. -/
theorem attnV_apply (q k v : FVec Ideal S4x256x128 .bf16) (t : Fin 4) (y : Fin 256) (d : Fin 128) :
    attnV q k v (ix3 t y d) = ∑ j : Fin 256,
      Ideal.div (Ideal.exp ((∑ a : Fin 128, q (ix3 t y a) * k (ix3 t j a)) * scale))
        (∑ j' : Fin 256, Ideal.exp ((∑ a : Fin 128, q (ix3 t y a) * k (ix3 t j' a)) * scale)) * v (ix3 t j d) := by
  pointwise [attnV]
  rfl

/-- Row `y` of the set `t`. -/
def row (t : Fin 4) (y : Fin 256) : Fin 1024 := ⟨256 * t.val + y.val, by omega⟩

/-- Column `d` of head `n` of a group. -/
def col (n : Fin 8) (d : Fin 128) : Fin 1024 := ⟨128 * n.val + d.val, by omega⟩

/-- The row of set `t` and place `y` lies in set `t`. -/
theorem row_set (t : Fin 4) (y : Fin 256) (h : (row t y).val / 256 < 4) : (⟨(row t y).val / 256, h⟩ : Fin 4) = t :=
  Fin.ext (by show (256 * t.val + y.val) / 256 = t.val; omega)

/-- The row of set `t` and place `y` has place `y` in its set. -/
theorem row_place (t : Fin 4) (y : Fin 256) (h : (row t y).val % 256 < 256) : (⟨(row t y).val % 256, h⟩ : Fin 256) = y :=
  Fin.ext (by show (256 * t.val + y.val) % 256 = y.val; omega)

/-- A head's columns, its rows in four sets. -/
theorem sets_apply (n : Fin 8) (q : FVec Ideal S1024x1024 .bf16) (t : Fin 4) (y : Fin 256) (d : Fin 128) :
    shapeCast S4x256x128 (extractStridedSlice S1024x128 ![0, 128 * n.val] q (slices_head n)) shapeCasts_S1024x128_S4x256x128 (ix3 t y d)
      = q (ix2 (row t y) (col n d)) := by
  pointwise
  exact congrArg q (congrArg₂ ix2 (Fin.ext (by show t.val * 256 + y.val = 256 * t.val + y.val; omega)) rfl)

/-- The weight of row `j` for row `y` within the set `t`, of head `n`. -/
def wAt (n : Fin 8) (q k : FVec Ideal S1024x1024 .bf16) (t : Fin 4) (y j : Fin 256) : EReal :=
  Ideal.div (Ideal.exp ((∑ a : Fin 128, q (ix2 (row t y) (col n a)) * k (ix2 (row t j) (col n a))) * scale))
    (∑ j' : Fin 256, Ideal.exp ((∑ a : Fin 128, q (ix2 (row t y) (col n a)) * k (ix2 (row t j') (col n a))) * scale))

/-- One head's context at the row of set `t` and place `y`: its attention within the set, over the head's columns. -/
theorem headV_apply (n : Fin 8) (q k v : FVec Ideal S1024x1024 .bf16) (t : Fin 4) (y : Fin 256) (d : Fin 128) :
    headV ![0, 128 * n.val] (slices_head n) q k v (ix2 (row t y) d) = ∑ j : Fin 256, wAt n q k t y j * v (ix2 (row t j) (col n d)) := by
  unfold headV wAt
  pointwise
  rw [row_set, row_place, attnV_apply]
  simp only [sets_apply]

/-- The context tile at a row and a column of head `n` and lane `d` is that head's context there. -/
theorem ctxV_at (q k v : FVec Ideal S1024x1024 .bf16) (ix : S1024x1024.Idx) (r : Fin 1024) (n : Fin 8) (d : Fin 128)
    (hr : ix 0 = r) (hn : (ix 1).val / 128 = n.val) (hd : (ix 1).val % 128 = d.val) :
    ctxV q k v ix = headV ![0, 128 * n.val] (slices_head n) q k v (ix2 r d) := by
  obtain ⟨n, hn'⟩ := n
  obtain ⟨d, hd'⟩ := d
  subst hr
  dsimp only at hn hd
  subst hn hd
  rfl

/-- The context tile at set `t`, place `y`, head `n`, lane `d`: the normalised weighted sum over the set's rows. -/
theorem ctxV_apply (n : Fin 8) (q k v : FVec Ideal S1024x1024 .bf16) (t : Fin 4) (y : Fin 256) (d : Fin 128) :
    ctxV q k v (ix2 (row t y) (col n d)) = ∑ j : Fin 256, wAt n q k t y j * v (ix2 (row t j) (col n d)) := by
  rw [← headV_apply]
  exact ctxV_at q k v _ _ n d rfl (by show (128 * n.val + d.val) / 128 = n.val; omega) (by show (128 * n.val + d.val) % 128 = d.val; omega)

section Acc
variable (A B : Dev nD → Vec Ideal S1024x1024 .bf16) (X : Vec Ideal S1x1024x1024 .bf16) (K V : Vec Ideal S4x1024x1024 .bf16)

/-- The part of the output that head group `g` contributes, at row `r` and column `l`. -/
theorem projG_apply (g : Dev nD) (r l : Fin 1024) : projG A B X K V g (ix2 r l) = ∑ k : Fin 1024, ctxG A X K V g (ix2 r k) * B g (ix2 k l) :=
  mmV_apply _ _ _ _

/-- The running sum is over the four groups. -/
theorem acc3_apply (c : Dev nD) (r l : Fin 1024) : acc3 A B X K V c (ix2 r l) = ∑ g : Dev nD, projG A B X K V g (ix2 r l) := by
  have h : acc3 A B X K V c (ix2 r l) = projG A B X K V c (ix2 r l) + projG A B X K V (nb false c) (ix2 r l)
      + projG A B X K V (nb true c) (ix2 r l) + projG A B X K V (nb false (nb false c)) (ix2 r l) := by
    unfold acc3 acc2 acc1 acc0
    generalize projG A B X K V = f
    pointwise
  rw [h, Fin.sum_univ_four]
  generalize hf : (fun g => projG A B X K V g (ix2 r l)) = f
  have e (g : Dev nD) : projG A B X K V g (ix2 r l) = f g := congrFun hf g
  simp only [e]
  fin_cases c
  · show f 0 + f 3 + f 1 + f 2 = f 0 + f 1 + f 2 + f 3
    ac_rfl
  · show f 1 + f 0 + f 2 + f 3 = f 0 + f 1 + f 2 + f 3
    ac_rfl
  · show f 2 + f 1 + f 3 + f 0 = f 0 + f 1 + f 2 + f 3
    ac_rfl
  · show f 3 + f 2 + f 0 + f 1 = f 0 + f 1 + f 2 + f 3
    ac_rfl

/-- Device `c`'s result at row `i` and column `l`: the sum over the four head groups, read at the permuted row. -/
theorem resV_apply (c : Dev nD) (i l : Fin 1024) : resV A B X K V c (ix3 0 i l) = ∑ g : Dev nD, projG A B X K V g (ix2 (perm i) l) :=
  acc3_apply A B X K V c (perm i) l

end Acc

end Cert.KernelIdeal.Ring

end

end
-- ==== Proof.Value.Host.lean ====
/- The key and value caches as the ring finds them: one device's cache, its rows set by set and its lanes cut in the four groups. -/
module

public import proofs.«01_k».proof.Proof.Value.KernelAt
public import proofs.«01_k».proof.Proof.Gen.KernelIdeal.Regions
public import Idealize.ShloMosaic.Lib.DynamicIndex

@[expose] public section

noncomputable section

namespace Cert.KernelIdeal.Ring

open Idealize.ShloMosaic Idealize.ShloMosaic.TcCoe Idealize.SL.Sem
open Cert.KernelIdeal.Gen

variable {F : FTy → Type} [FloatOps F]

/-- A cache with its rows set by set and its lanes cut in the four groups. -/
def lanesV (x : FVec F S1024x32x128 .bf16) : FVec F S4x1024x1024 .bf16 :=
  transpose S4x1024x1024 [1, 0, 2]
    (shapeCast S1024x4x1024
      (shapeCast S1024x4096
        (transpose S4x4x64x4096 [1, 0, 2, 3]
          (shapeCast S4x4x64x4096 (shapeCast S1024x4096 x shapeCasts_S1024x32x128_S1024x4096) shapeCasts_S1024x4096_S4x4x64x4096)
          transposes_S4x4x64x4096_S4x4x64x4096_1_0_2_3)
        shapeCasts_S4x4x64x4096_S1024x4096)
      shapeCasts_S1024x4096_S1024x4x1024)
    transposes_S1024x4x1024_S4x1024x1024_1_0_2

/-- A slot number counted from the end where it is negative. -/
def slotV (i : IVec S_ 32) : IVec S_ 32 :=
  select (cmpi .slt i (constantI S_ 32 0#32)) (addi i (constantI S_ 32 4#32)) i

/-- The cache in slot `i`. -/
def cacheV (x : FVec F S4x1024x32x128 .bf16) (i : IVec S_ 32) : FVec F S1024x32x128 .bf16 :=
  shapeCast S1024x32x128
    (Host.dynamicSlice S1x1024x32x128 x
      (fun k => ((![slotV i, constantI S_ 32 0#32, constantI S_ 32 0#32, constantI S_ 32 0#32] k : IVec S_ 32)
        (Shape.Idx.first h_S_)).toInt) sliceFits_S4x1024x32x128_S1x1024x32x128)
    shapeCasts_S1x1024x32x128_S1024x32x128

/-- The slot a device reads, as its program computes it. -/
def placeV (c : Dev nD) : IVec S_ 32 :=
  Host.remui (Host.divui (constantI S_ 32 (Dev.word c)) (constantI S_ 32 1#32)) (constantI S_ 32 4#32)

section Reads

variable (W : Valuation τ sig (Elt F))

/-- The first stretch computes the device's slot. -/
theorem after_place (c : Dev nD) : StableHlo.after (hostOps0 (F := F) c) W main_v4 = placeV c := by
  simp only [hostOps0]
  after_results_simp
  rfl

/-- The keys' stretch of operations leaves the cache of the slot it is given. -/
theorem after_keys : StableHlo.after (hostOps0_1 (F := F)) W main_v5 = cacheV (W main_arg2) (W main_v4) := by
  have h0 : StableHlo.after ((hostOps0_1 (F := F)).take 8) W main_call0_v2 = slotV (W main_v4) := by
    simp only [hostOps0_1, List.take_succ_cons, List.take_zero, StableHlo.TRef.nullary, StableHlo.TRef.binary, StableHlo.TRef.ternary,
      StableHlo.TRef.toBuf, StableHlo.TRef.ofBuf, cast_eq]
    after_results_simp
    rfl
  have h1 : StableHlo.after ((hostOps0_1 (F := F)).take 8) W main_call0_c_1 = constantI S_ 32 0#32 := by
    simp only [hostOps0_1, List.take_succ_cons, List.take_zero, StableHlo.TRef.nullary, StableHlo.TRef.binary, StableHlo.TRef.ternary,
      StableHlo.TRef.toBuf, StableHlo.TRef.ofBuf, cast_eq]
    after_results_simp
  have h2 : StableHlo.after ((hostOps0_1 (F := F)).take 8) W main_call0_c_2 = constantI S_ 32 0#32 := by
    simp only [hostOps0_1, List.take_succ_cons, List.take_zero, StableHlo.TRef.nullary, StableHlo.TRef.binary, StableHlo.TRef.ternary,
      StableHlo.TRef.toBuf, StableHlo.TRef.ofBuf, cast_eq]
    after_results_simp
  have h3 : StableHlo.after ((hostOps0_1 (F := F)).take 8) W main_call0_c_3 = constantI S_ 32 0#32 := by
    simp only [hostOps0_1, List.take_succ_cons, List.take_zero, StableHlo.TRef.nullary, StableHlo.TRef.binary, StableHlo.TRef.ternary,
      StableHlo.TRef.toBuf, StableHlo.TRef.ofBuf, cast_eq]
    after_results_simp
  simp only [hostOps0_1, StableHlo.TRef.nullary, StableHlo.TRef.unary, StableHlo.TRef.binary, StableHlo.TRef.ternary, StableHlo.TRef.reshape,
    StableHlo.TRef.unaryIndexed, StableHlo.TRef.toBuf, StableHlo.TRef.ofBuf, cast_eq]
  after_results_simp
  refine congrArg (fun k => shapeCast S1024x32x128 (Host.dynamicSlice S1x1024x32x128 (W main_arg2) k
    sliceFits_S4x1024x32x128_S1x1024x32x128) shapeCasts_S1x1024x32x128_S1024x32x128) (funext fun k => ?_)
  fin_cases k
  · exact congrArg (fun i : IVec S_ 32 => (i (Shape.Idx.first h_S_)).toInt) h0
  · exact congrArg (fun i : IVec S_ 32 => (i (Shape.Idx.first h_S_)).toInt) h1
  · exact congrArg (fun i : IVec S_ 32 => (i (Shape.Idx.first h_S_)).toInt) h2
  · exact congrArg (fun i : IVec S_ 32 => (i (Shape.Idx.first h_S_)).toInt) h3

/-- The values' stretch does the same to the other cache. -/
theorem after_vals : StableHlo.after (hostOps0_2 (F := F)) W main_v6 = cacheV (W main_arg3) (W main_v4) := by
  have h0 : StableHlo.after ((hostOps0_2 (F := F)).take 8) W main_call1_v2 = slotV (W main_v4) := by
    simp only [hostOps0_2, List.take_succ_cons, List.take_zero, StableHlo.TRef.nullary, StableHlo.TRef.binary, StableHlo.TRef.ternary,
      StableHlo.TRef.toBuf, StableHlo.TRef.ofBuf, cast_eq]
    after_results_simp
    rfl
  have h1 : StableHlo.after ((hostOps0_2 (F := F)).take 8) W main_call1_c_1 = constantI S_ 32 0#32 := by
    simp only [hostOps0_2, List.take_succ_cons, List.take_zero, StableHlo.TRef.nullary, StableHlo.TRef.binary, StableHlo.TRef.ternary,
      StableHlo.TRef.toBuf, StableHlo.TRef.ofBuf, cast_eq]
    after_results_simp
  have h2 : StableHlo.after ((hostOps0_2 (F := F)).take 8) W main_call1_c_2 = constantI S_ 32 0#32 := by
    simp only [hostOps0_2, List.take_succ_cons, List.take_zero, StableHlo.TRef.nullary, StableHlo.TRef.binary, StableHlo.TRef.ternary,
      StableHlo.TRef.toBuf, StableHlo.TRef.ofBuf, cast_eq]
    after_results_simp
  have h3 : StableHlo.after ((hostOps0_2 (F := F)).take 8) W main_call1_c_3 = constantI S_ 32 0#32 := by
    simp only [hostOps0_2, List.take_succ_cons, List.take_zero, StableHlo.TRef.nullary, StableHlo.TRef.binary, StableHlo.TRef.ternary,
      StableHlo.TRef.toBuf, StableHlo.TRef.ofBuf, cast_eq]
    after_results_simp
  simp only [hostOps0_2, StableHlo.TRef.nullary, StableHlo.TRef.unary, StableHlo.TRef.binary, StableHlo.TRef.ternary, StableHlo.TRef.reshape,
    StableHlo.TRef.unaryIndexed, StableHlo.TRef.toBuf, StableHlo.TRef.ofBuf, cast_eq]
  after_results_simp
  refine congrArg (fun k => shapeCast S1024x32x128 (Host.dynamicSlice S1x1024x32x128 (W main_arg3) k
    sliceFits_S4x1024x32x128_S1x1024x32x128) shapeCasts_S1x1024x32x128_S1024x32x128) (funext fun k => ?_)
  fin_cases k
  · exact congrArg (fun i : IVec S_ 32 => (i (Shape.Idx.first h_S_)).toInt) h0
  · exact congrArg (fun i : IVec S_ 32 => (i (Shape.Idx.first h_S_)).toInt) h1
  · exact congrArg (fun i : IVec S_ 32 => (i (Shape.Idx.first h_S_)).toInt) h2
  · exact congrArg (fun i : IVec S_ 32 => (i (Shape.Idx.first h_S_)).toInt) h3

/-- The last stretch cuts the keys' lanes. -/
theorem after_lanes : StableHlo.after (hostOps0_3 (F := F)) W main_v16 = lanesV (W main_v5) := by
  simp only [hostOps0_3]
  after_results_simp
  rfl

/-- And the values' lanes. -/
theorem after_lanes' : StableHlo.after (hostOps0_3 (F := F)) W main_v18 = lanesV (W main_v6) := by
  simp only [hostOps0_3]
  after_results_simp
  rfl

end Reads

/-- Lane `l` of group `g` is lane `l % 128` of head `8g + l / 128`. -/
theorem lanesV_apply (x : FVec Ideal S1024x32x128 .bf16) (g : Fin 4) (r l : Fin 1024) :
    lanesV x (ix3 g r l) = x (ix3 (perm r) ⟨8 * g.val + l.val / 128, by omega⟩ ⟨l.val % 128, by omega⟩) := by
  pointwise [lanesV]
  congr 2
  all_goals apply Fin.ext
  all_goals simp only [perm]
  all_goals omega

/-- A device reads the slot of its own number. -/
theorem cacheV_apply (x : FVec Ideal S4x1024x32x128 .bf16) (c : Dev nD) (r : Fin 1024) (h : Fin 32) (d : Fin 128) :
    cacheV x (placeV c) (ix3 r h d) = x (ix4 c r h d) := by
  have hp : ∀ c : Dev nD, (slotV (placeV c) (Shape.Idx.first h_S_)).toInt = (c.val : Int) := by
    decide +kernel
  have hs : ∀ a, ((![slotV (placeV c), constantI S_ 32 0#32, constantI S_ 32 0#32, constantI S_ 32 0#32] a : IVec S_ 32)
        (Shape.Idx.first h_S_)).toInt = ((![c.val, 0, 0, 0] : Fin 4 → ℕ) a : Int) := fun a => by
    fin_cases a
    · exact hp c
    · rfl
    · rfl
    · rfl
  have e := Host.dynamicSlice_eq_extractStridedSlice S1x1024x32x128 x _ (![c.val, 0, 0, 0] : Fin 4 → ℕ)
    sliceFits_S4x1024x32x128_S1x1024x32x128 ⟨rfl, fun a => by
      have := c.isLt; fin_cases a <;> simp [S4x1024x32x128, S1x1024x32x128] <;> omega⟩ hs
  refine (congrArg (fun y => shapeCast S1024x32x128 y shapeCasts_S1x1024x32x128_S1024x32x128 (ix3 r h d)) e).trans ?_
  pointwise

variable (m : (ℓ : Loc nD τ sig) → Buf (Elt Ideal) ℓ)

/-- A reference that no host step writes still holds what it held at the start. -/
theorem V4_eq_of (c : Dev nD) (r : Ref sig .tc) (h : r ∉ hostOps0_W) (h1 : r ∉ hostOps0_1_W) (h2 : r ∉ hostOps0_2_W) (h3 : r ∉ hostOps0_3_W) :
    V4 m c r = m (c.tc.loc r) :=
  (V4_of m c r h3).trans ((V3_of m c r h2).trans ((V2_of m c r h1).trans (V1_of m c r h)))

/-- The keys the ring starts from, at an index. -/
theorem V4_keys (c : Dev nD) (g : Fin 4) (r l : Fin 1024) :
    (V4 m c main_v16 : FVec Ideal S4x1024x1024 .bf16) (ix3 g r l)
      = (m (c.tc.loc main_arg2) : FVec Ideal S4x1024x32x128 .bf16)
          (ix4 c (perm r) ⟨8 * g.val + l.val / 128, by omega⟩ ⟨l.val % 128, by omega⟩) := by
  have h4 : V4 m c main_v16 = lanesV (F := Ideal) (V3 m c main_v5) := after_lanes (V3 m c)
  have h3 : V3 m c main_v5 = V2 m c main_v5 := V3_of m c main_v5 (by decide)
  have h2 : V2 m c main_v5 = cacheV (F := Ideal) (V1 m c main_arg2) (V1 m c main_v4) := after_keys (V1 m c)
  have h1 : V1 m c main_v4 = placeV c := after_place (V0 m c) c
  have h0 : V1 m c main_arg2 = m (c.tc.loc main_arg2) := V1_of m c main_arg2 (by decide)
  rw [h0, h1] at h2
  rw [h4, h3, h2, lanesV_apply, cacheV_apply]

/-- The values the ring starts from, at an index. -/
theorem V4_vals (c : Dev nD) (g : Fin 4) (r l : Fin 1024) :
    (V4 m c main_v18 : FVec Ideal S4x1024x1024 .bf16) (ix3 g r l)
      = (m (c.tc.loc main_arg3) : FVec Ideal S4x1024x32x128 .bf16)
          (ix4 c (perm r) ⟨8 * g.val + l.val / 128, by omega⟩ ⟨l.val % 128, by omega⟩) := by
  have h4 : V4 m c main_v18 = lanesV (F := Ideal) (V3 m c main_v6) := after_lanes' (V3 m c)
  have h3 : V3 m c main_v6 = cacheV (F := Ideal) (V2 m c main_arg3) (V2 m c main_v4) := after_vals (V2 m c)
  have h2 : V2 m c main_v4 = V1 m c main_v4 := V2_of m c main_v4 (by decide)
  have h1 : V1 m c main_v4 = placeV c := after_place (V0 m c) c
  have h0 : V2 m c main_arg3 = m (c.tc.loc main_arg3) :=
    (V2_of m c main_arg3 (by decide)).trans (V1_of m c main_arg3 (by decide))
  rw [h0, h2, h1] at h3
  rw [h4, h3, lanesV_apply, cacheV_apply]

end Cert.KernelIdeal.Ring
-- ==== Proof.Value.Softmax.lean ====
/- A softmax over a subset of the positions, with the row's maximum taken off and minus infinity outside, is the plain one over the subset. -/
module

public import Idealize.ShloMosaic.PureOps.Ideal
public import Idealize.ShloMosaic.Lib.Pointwise

@[expose] public section

noncomputable section

namespace Cert.KernelIdeal.Ring

open Idealize.ShloMosaic

/-- The exponential of a real number. -/
theorem exp_coe (r : ℝ) : Ideal.exp ((r : ℝ) : EReal) = ((Real.exp r : ℝ) : EReal) := rfl

/-- The exponential of minus infinity. -/
theorem exp_bot : Ideal.exp ⊥ = 0 := rfl

/-- A real number over a positive one. -/
theorem div_coe (a b : ℝ) (hb : 0 < b) : Ideal.div ((a : ℝ) : EReal) ((b : ℝ) : EReal) = ((a / b : ℝ) : EReal) := by
  unfold Ideal.div
  rw [if_neg (by exact_mod_cast hb.ne')]
  rw [← EReal.coe_inv, ← EReal.coe_mul, div_eq_mul_inv]

/-- A sum of real numbers is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {ι : Type} [Fintype ι] [DecidableEq ι]

/-- The greatest of finitely many numbers, each real or minus infinity and one of them real, is real. -/
theorem fold_max_real (a : ι → ℝ) (p : ι → Prop) [DecidablePred p] (i : ι) (hi : p i) :
    ∃ μ : ℝ, (Finset.univ.fold max ⊥ fun j => if p j then ((a j : ℝ) : EReal) else ⊥) = μ := by
  set M := Finset.univ.fold max ⊥ fun j => if p j then ((a j : ℝ) : EReal) else ⊥ with hM
  have hb : M ≠ ⊥ := fun h => by
    have := (Finset.fold_max_le (s := Finset.univ) (b := (⊥ : EReal)) (f := fun j => if p j then ((a j : ℝ) : EReal) else ⊥) ⊥).1
      (by rw [← hM, h])
    have := this.2 i (Finset.mem_univ i)
    rw [if_pos hi] at this
    exact absurd (le_bot_iff.1 this) (EReal.coe_ne_bot _)
  have ht : M ≠ ⊤ := fun h => by
    have hlt : M < ⊤ := (Finset.fold_max_lt (s := Finset.univ) (b := (⊥ : EReal)) (f := fun j => if p j then ((a j : ℝ) : EReal) else ⊥) ⊤).2
      ⟨bot_lt_top, fun j _ => by
        split
        · exact EReal.coe_lt_top _
        · exact bot_lt_top⟩
    exact hlt.ne h
  exact ⟨M.toReal, (EReal.coe_toReal ht hb).symm⟩

/-- The weight of a position: the shifted form, zero outside the subset, against the plain form over the subset. -/
theorem weight_eq (a : ι → ℝ) (p : ι → Prop) [DecidablePred p] (i : ι) (hi : p i) (f : ι → EReal)
    (hf : ∀ j, f j = if p j then ((a j : ℝ) : EReal) else ⊥) (j : ι) :
    Ideal.div (Ideal.exp (f j - Finset.univ.fold max ⊥ f)) (∑ j' : ι, Ideal.exp (f j' - Finset.univ.fold max ⊥ f))
      = if p j then Ideal.div (Ideal.exp (a j)) (∑ j' ∈ Finset.univ.filter p, Ideal.exp (a j')) else 0 := by
  obtain rfl : f = fun j => if p j then ((a j : ℝ) : EReal) else ⊥ := funext hf
  obtain ⟨μ, hμ⟩ := fold_max_real a p i hi
  rw [hμ]
  have he : ∀ j, Ideal.exp ((if p j then ((a j : ℝ) : EReal) else ⊥) - (μ : EReal))
      = (((if p j then Real.exp (a j - μ) else 0 : ℝ)) : EReal) := fun j => by
    by_cases h : p j
    · rw [if_pos h, if_pos h, ← EReal.coe_sub, exp_coe]
    · rw [if_neg h, if_neg h, EReal.bot_sub, exp_bot, EReal.coe_zero]
  have hz : (0 : ℝ) < ∑ j, (if p j then Real.exp (a j - μ) else 0) :=
    Finset.sum_pos' (fun j _ => by split <;> positivity) ⟨i, Finset.mem_univ i, by rw [if_pos hi]; positivity⟩
  have hz' : (0 : ℝ) < ∑ j ∈ Finset.univ.filter p, Real.exp (a j) :=
    Finset.sum_pos (fun j _ => Real.exp_pos _) ⟨i, Finset.mem_filter.2 ⟨Finset.mem_univ i, hi⟩⟩
  simp only [he, exp_coe, sum_coe]
  rw [div_coe _ _ hz, div_coe _ _ hz']
  by_cases h : p j
  · rw [if_pos h, if_pos h, ← Finset.sum_filter]
    congr 1
    simp only [Real.exp_sub]
    rw [← Finset.sum_div, div_div_div_cancel_right₀ (Real.exp_pos μ).ne']
  · rw [if_neg h, if_neg h, zero_div, EReal.coe_zero]

end Cert.KernelIdeal.Ring
-- ==== Proof.Value.RefAt.lean ====
/- The reference's result in named stages, and each stage read at an index over the extended reals. -/
module

public import proofs.«01_k».proof.Proof.Gen.ReferenceIdeal.Run
public import Idealize.ShloMosaic.Lib.Pointwise

@[expose] public section

noncomputable section

namespace Cert.ReferenceIdeal.Stages

open Idealize.ShloMosaic Idealize.ShloMosaic.TcCoe Idealize.SL.Sem
open Cert.ReferenceIdeal Cert.ReferenceIdeal.Gen

/-- The block of 64 rows each position lies in. -/
def blockR : IVec S1024 32 :=
  select
    (andi
      (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The blocks, one per query row. -/
def rowsR : IVec S1024x1 32 := broadcastInDim S1024x1 ![0] bcast_S1024_S1024x1_0 blockR

/-- The blocks, one per key row. -/
def colsR : IVec S1x1024 32 := broadcastInDim S1x1024 ![1] bcast_S1024_S1x1024_1 blockR

/-- The stride, with the guard that a division by it is written with. -/
def fourR : IVec S_ 32 :=
  select (cmpi .eq (id (constantI S_ 32 4#32)) (constantI S_ 32 0#32)) (constantI S_ 32 1#32) (id (constantI S_ 32 4#32))

/-- Each key row's block, modulo the stride. -/
def colsModR : IVec S1x1024 32 :=
  select
    (andi
      (cmpi .ne
        (cmpi .slt (Host.remsi colsR (broadcastInDim S1x1024 ![] bcast_S_S1x1024 fourR))
          (broadcastInDim S1x1024 ![] bcast_S_S1x1024 (constantI S_ 32 0#32)))
        (broadcastInDim S1x1024 ![] bcast_S_S1x1024 (cmpi .slt fourR (constantI S_ 32 0#32))))
      (cmpi .ne (Host.remsi colsR (broadcastInDim S1x1024 ![] bcast_S_S1x1024 fourR))
        (broadcastInDim S1x1024 ![] bcast_S_S1x1024 (constantI S_ 32 0#32))))
    (addi (Host.remsi colsR (broadcastInDim S1x1024 ![] bcast_S_S1x1024 fourR)) (broadcastInDim S1x1024 ![] bcast_S_S1x1024 fourR))
    (Host.remsi colsR (broadcastInDim S1x1024 ![] bcast_S_S1x1024 fourR))

/-- Each query row's block, modulo the stride. -/
def rowsModR : IVec S1024x1 32 :=
  select
    (andi
      (cmpi .ne
        (cmpi .slt (Host.remsi rowsR (broadcastInDim S1024x1 ![] bcast_S_S1024x1 fourR))
          (broadcastInDim S1024x1 ![] bcast_S_S1024x1 (constantI S_ 32 0#32)))
        (broadcastInDim S1024x1 ![] bcast_S_S1024x1 (cmpi .slt fourR (constantI S_ 32 0#32))))
      (cmpi .ne (Host.remsi rowsR (broadcastInDim S1024x1 ![] bcast_S_S1024x1 fourR))
        (broadcastInDim S1024x1 ![] bcast_S_S1024x1 (constantI S_ 32 0#32))))
    (addi (Host.remsi rowsR (broadcastInDim S1024x1 ![] bcast_S_S1024x1 fourR)) (broadcastInDim S1024x1 ![] bcast_S_S1024x1 fourR))
    (Host.remsi rowsR (broadcastInDim S1024x1 ![] bcast_S_S1024x1 fourR))

/-- Which key rows a query row attends. -/
def maskR : IVec S1024x1024 1 :=
  ori
    (cmpi .eq (broadcastInDim S1024x1024 ![0, 1] bcast_S1024x1_S1024x1024_0_1 rowsR)
      (broadcastInDim S1024x1024 ![0, 1] bcast_S1x1024_S1024x1024_0_1 colsR))
    (cmpi .eq (broadcastInDim S1024x1024 ![0, 1] bcast_S1x1024_S1024x1024_0_1 colsModR)
      (broadcastInDim S1024x1024 ![0, 1] bcast_S1024x1_S1024x1024_0_1 rowsModR))

/-- Which query rows attend any row at all. -/
def keepR : IVec S1024 1 := Host.reduce IntOp.ori maskR (constantI S_ 1 0#1) reducesTo_S1024x1024_S1024_d1 h_S_

variable {F : FTy → Type} [FloatOps F]

/-- The queries, head by head. -/
def queryR (x : FVec F S4x1024x1024 .bf16) (wq : FVec F S1024x4096 .bf16) : FVec F S4x1024x32x128 .bf16 :=
  shapeCast S4x1024x32x128
    (truncf .bf16 (Host.dotGeneral dot_S4x1024x1024_S1024x4096_S4x1024x4096_2_0_01_1_n_n none x wq) bitsLt_bf16_f32)
    shapeCasts_S4x1024x4096_S4x1024x32x128

/-- The scaled scores, minus infinity outside the mask. -/
def scoreR (q k : FVec F S4x1024x32x128 .bf16) : FVec F S4x32x1024x1024 .f32 :=
  select
    (broadcastInDim S4x32x1024x1024 ![0, 1, 2, 3] bcast_S1x1x1024x1024_S4x32x1024x1024_0_1_2_3
      (broadcastInDim S1x1x1024x1024 ![2, 3] bcast_S1024x1024_S1x1x1024x1024_2_3 maskR))
    (mulf
      (extf .f32
        (truncf .bf16 (Host.dotGeneral dot_S4x1024x32x128_S4x1024x32x128_S4x32x1024x1024_3_3_1_1_02_02 none q k) bitsLt_bf16_f32)
        bitsLt_bf16_f32)
      (broadcastInDim S4x32x1024x1024 ![] bcast_S_S4x32x1024x1024 (constant S_ .f32 0x3DB504F3#32)))
    (broadcastInDim S4x32x1024x1024 ![] bcast_S_S4x32x1024x1024 (id (constant S_ .f32 0xFF800000#32)))

/-- The exponentials of the scores less their row's maximum. -/
def expR (s : FVec F S4x32x1024x1024 .f32) : FVec F S4x32x1024x1024 .f32 :=
  Host.exp
    (subf s
      (broadcastInDim S4x32x1024x1024 ![0, 1, 2, 3] bcast_S4x32x1024x1_S4x32x1024x1024_0_1_2_3
        (broadcastInDim S4x32x1024x1 ![0, 1, 2] bcast_S4x32x1024_S4x32x1024x1_0_1_2
          (Host.reduce FloatOps.maximumf s (constant S_ .f32 0xFF800000#32) reducesTo_S4x32x1024x1024_S4x32x1024_d3 h_S_))))

/-- The weights: the exponentials over their row's sum, where the row is kept. -/
def weightR (e : FVec F S4x32x1024x1024 .f32) : FVec F S4x32x1024x1024 .f32 :=
  select
    (broadcastInDim S4x32x1024x1024 ![0, 1, 2, 3] bcast_S1x1x1024x1_S4x32x1024x1024_0_1_2_3
      (broadcastInDim S1x1x1024x1 ![2] bcast_S1024_S1x1x1024x1_2 keepR))
    (Host.divf e
      (broadcastInDim S4x32x1024x1024 ![0, 1, 2, 3] bcast_S4x32x1024x1_S4x32x1024x1024_0_1_2_3
        (select
          (broadcastInDim S4x32x1024x1 ![0, 1, 2, 3] bcast_S1x1x1024x1_S4x32x1024x1_0_1_2_3
            (broadcastInDim S1x1x1024x1 ![2] bcast_S1024_S1x1x1024x1_2 keepR))
          (broadcastInDim S4x32x1024x1 ![0, 1, 2] bcast_S4x32x1024_S4x32x1024x1_0_1_2
            (Host.reduceAdd e (constant S_ .f32 0x00000000#32) reducesTo_S4x32x1024x1024_S4x32x1024_d3 h_S_))
          (broadcastInDim S4x32x1024x1 ![] bcast_S_S4x32x1024x1 (id (constant S_ .f32 0x3F800000#32))))))
    (broadcastInDim S4x32x1024x1024 ![] bcast_S_S4x32x1024x1024 (id (constant S_ .f32 0x00000000#32)))

/-- The weighted values, each row's heads side by side. -/
def ctxR (w : FVec F S4x32x1024x1024 .f32) (v : FVec F S4x1024x32x128 .bf16) : FVec F S4x1024x4096 .f32 :=
  shapeCast S4x1024x4096
    (transpose S4x1024x32x128 [0, 3, 1, 2]
      (Host.dotGeneral dot_S4x1024x32x128_S4x32x1024x1024_S4x32x128x1024_1_3_3_2_02_01 none (extf .f32 v bitsLt_bf16_f32) w)
      transposes_S4x32x128x1024_S4x1024x32x128_0_3_1_2)
    shapeCasts_S4x1024x32x128_S4x1024x4096

/-- The last product. -/
def projR (x : FVec F S4x1024x4096 .f32) (wo : FVec F S4096x1024 .bf16) : FVec F S4x1024x1024 .bf16 :=
  truncf .bf16
    (Host.dotGeneral dot_S4x1024x4096_S4096x1024_S4x1024x1024_2_0_01_1_n_n none x (extf .f32 wo bitsLt_bf16_f32)) bitsLt_bf16_f32

/-- The reference's result is these stages in turn. -/
theorem res_eq (m : (ℓ : Loc nD τ sig) → Buf (Elt F) ℓ) (c : Dev nD) :
    Value.res_main_v45 m c
      = projR
          (ctxR (weightR (expR (scoreR (queryR (m (c.tc.loc main_arg0)) (m (c.tc.loc main_arg1))) (m (c.tc.loc main_arg2)))))
            (m (c.tc.loc main_arg3)))
          (m (c.tc.loc main_arg4)) := rfl

/-- The word of minus infinity. -/
theorem ofBits_bot : Ideal.ofBits .f32 0xFF800000#32 = ⊥ := by
  simp [Ideal.ofBits, Ideal.ieee]

/-- The block of 64 rows that row `r` belongs to. -/
theorem blockR_apply : ∀ r : Fin 1024, blockR (ix1 r) = BitVec.ofNat 32 (r.val / 64) := by
  decide +kernel

/-- A key's block number modulo four. -/
theorem colsModR_apply : ∀ r : Fin 1024, colsModR (ix2 0 r) = BitVec.ofNat 32 (r.val / 64 % 4) := by
  decide +kernel

/-- A query's block number modulo four. -/
theorem rowsModR_apply : ∀ r : Fin 1024, rowsModR (ix2 r 0) = BitVec.ofNat 32 (r.val / 64 % 4) := by
  decide +kernel

/-- A query row attends the key rows whose block agrees with its own modulo the stride. -/
theorem maskR_apply (i j : Fin 1024) : maskR (ix2 i j) = if j.val / 64 % 4 = i.val / 64 % 4 then 1#1 else 0#1 := by
  have key : ∀ a b : Fin 16,
      IntOp.ori (IntOp.cmpi .eq (BitVec.ofNat 32 a.val) (BitVec.ofNat 32 b.val))
        (IntOp.cmpi .eq (BitVec.ofNat 32 (b.val % 4)) (BitVec.ofNat 32 (a.val % 4))) = if b.val % 4 = a.val % 4 then 1#1 else 0#1 := by
    decide +kernel
  have e : maskR (ix2 i j) = IntOp.ori (IntOp.cmpi .eq (blockR (ix1 i)) (blockR (ix1 j)))
      (IntOp.cmpi .eq (colsModR (ix2 0 j)) (rowsModR (ix2 i 0))) := by
    pointwise [maskR, rowsR, colsR]
  rw [e, blockR_apply, blockR_apply, colsModR_apply, rowsModR_apply]
  exact key ⟨i.val / 64, by omega⟩ ⟨j.val / 64, by omega⟩

/-- The query of batch `b`, row `i` and head `h`, at one lane: the row of `x` times a column of `Wq`. -/
theorem queryR_apply (x : FVec Ideal S4x1024x1024 .bf16) (wq : FVec Ideal S1024x4096 .bf16) (b : Fin 4) (i : Fin 1024) (h : Fin 32)
    (d : Fin 128) :
    queryR x wq (ix4 b i h d) = ∑ k : Fin 1024, x (ix3 b i k) * wq (ix2 k ⟨128 * h.val + d.val, by omega⟩) := by
  pointwise [queryR]
  simp only [Nat.mul_comm]

/-- The output at batch `b`, row `i`, column `l`: the row of contexts times a column of `Wo`. -/
theorem projR_apply (x : FVec Ideal S4x1024x4096 .f32) (wo : FVec Ideal S4096x1024 .bf16) (b : Fin 4) (i l : Fin 1024) :
    projR x wo (ix3 b i l) = ∑ k : Fin 4096, x (ix3 b i k) * wo (ix2 k l) := by
  pointwise [projR]

/-- The context at batch `b`, row `i`, column `k`: the weighted sum of the values of that column's head and lane. -/
theorem ctxR_apply (w : FVec Ideal S4x32x1024x1024 .f32) (v : FVec Ideal S4x1024x32x128 .bf16) (b : Fin 4) (i : Fin 1024) (k : Fin 4096) :
    ctxR w v (ix3 b i k) = ∑ j : Fin 1024, v (ix4 b j ⟨k.val / 128, by omega⟩ ⟨k.val % 128, by omega⟩)
      * w (ix4 b ⟨k.val / 128, by omega⟩ i j) := by
  pointwise [ctxR]

/-- The score of query `i` and key `j`: their product over the lanes times the scale, or minus infinity outside the mask. -/
theorem scoreR_apply (q k : FVec Ideal S4x1024x32x128 .bf16) (b : Fin 4) (h : Fin 32) (i j : Fin 1024) :
    scoreR q k (ix4 b h i j) = if maskR (ix2 i j) = 1#1 then (∑ d : Fin 128, q (ix4 b i h d) * k (ix4 b j h d)) * Ideal.ofBits .f32 0x3DB504F3#32
      else ⊥ := by
  pointwise [scoreR]
  rw [← ofBits_bot]
  rfl

/-- The exponential of a score less the largest score of its row. -/
theorem expR_apply (s : FVec Ideal S4x32x1024x1024 .f32) (b : Fin 4) (h : Fin 32) (i j : Fin 1024) :
    expR s (ix4 b h i j) = Ideal.exp (s (ix4 b h i j) - Finset.univ.fold max ⊥ fun j' : Fin 1024 => s (ix4 b h i j')) := by
  pointwise [expR]
  rw [ofBits_bot]

/-- An exponential divided by the sum of its row, for a row that the mask keeps. -/
theorem weightR_apply (e : FVec Ideal S4x32x1024x1024 .f32) (b : Fin 4) (h : Fin 32) (i j : Fin 1024) (hk : keepR (ix1 i) = 1#1) :
    weightR e (ix4 b h i j) = Ideal.div (e (ix4 b h i j)) (∑ j' : Fin 1024, e (ix4 b h i j')) := by
  pointwise [weightR]
  rw [hk]
  rfl

/-- The mask keeps every row: each row sees its own block. -/
theorem keepR_apply (i : Fin 1024) : keepR (ix1 i) = 1#1 := by
  pointwise [keepR]
  have one : ∀ x : BitVec 1, IntOp.ori 1#1 x = 1#1 := by decide
  rw [← Finset.insert_erase (Finset.mem_univ i), Finset.fold_insert (Finset.notMem_erase _ _), maskR_apply, if_pos rfl]
  exact one _

end Cert.ReferenceIdeal.Stages
-- ==== Proof.Value.Equation.lean ====
/- The kernel's result on one device is its sequence of the reference's result. -/
module

public import proofs.«01_k».proof.Proof.Value.KernelAt
public import proofs.«01_k».proof.Proof.Value.Softmax
public import proofs.«01_k».proof.Proof.Value.RefAt
public import Idealize.ShloMosaic.Lib.Pointwise.Sums

@[expose] public section

noncomputable section

namespace Cert.KernelIdeal.Ring

open Idealize.ShloMosaic
open Cert.ReferenceIdeal.Stages

/-- An extended real that is a real number. -/
def IsReal (x : EReal) : Prop := ∃ r : ℝ, x = r

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem IsReal.sum {ι : Type} (s : Finset ι) (f : ι → EReal) (hf : ∀ i, IsReal (f i)) : IsReal (∑ i ∈ s, f i) := by
  choose a ha using hf
  exact ⟨∑ i ∈ s, a i, by simp only [ha, sum_coe]⟩

/-- The scale is a real number. -/
theorem scale_real : IsReal scale := by
  simp [IsReal, scale, Ideal.ofBits, Ideal.ieee]
  exact ⟨_, (EReal.coe_mul _ _).symm⟩

/-- A reordered row's block has the residue of the row's set. -/
theorem perm_block (r : Fin 1024) : (perm r).val / 64 % 4 = r.val / 256 := by
  have e : r.val / 256 = r.val / 64 / 4 := by rw [Nat.div_div_eq_div_mul]
  have h : r.val / 64 / 4 < 4 := by omega
  have h' : r.val % 64 < 64 := by omega
  rw [e]
  simp only [perm]
  generalize r.val / 64 / 4 = b at *
  generalize r.val / 64 % 4 = a at *
  generalize r.val % 64 = c at *
  omega

/-- A row's set is the residue of its block. -/
theorem perm_set (r : Fin 1024) : (perm r).val / 256 = r.val / 64 % 4 := by
  have h := perm_block (perm r)
  rw [perm_perm] at h
  exact h.symm

/-- A row's place among those of its residue. -/
theorem perm_row (t : Fin 4) (i : Fin 1024) (h : i.val / 64 % 4 = t.val) :
    row t ⟨(perm i).val % 256, Nat.mod_lt _ (by decide)⟩ = perm i := by
  have e := (perm_set i).trans h
  apply Fin.ext
  simp only [row]
  omega

/-- The positions of one residue, in the order the rows are laid out. -/
theorem sum_set (t : Fin 4) (f : Fin 1024 → EReal) :
    ∑ j ∈ Finset.univ.filter (fun j : Fin 1024 => j.val / 64 % 4 = t.val), f j = ∑ y : Fin 256, f (perm (row t y)) := by
  have left : ∀ j : Fin 1024, j.val / 64 % 4 = t.val → perm (row t ⟨(perm j).val % 256, Nat.mod_lt _ (by decide)⟩) = j := fun j hj => by
    rw [perm_row t j hj, perm_perm]
  refine Finset.sum_bij' (fun j _ => (⟨(perm j).val % 256, Nat.mod_lt _ (by decide)⟩ : Fin 256)) (fun y _ => perm (row t y))
    (fun _ _ => Finset.mem_univ _) ?_ ?_ ?_ ?_
  · intro y _
    rw [Finset.mem_filter, perm_block]
    refine ⟨Finset.mem_univ _, ?_⟩
    simp only [row]
    omega
  · intro j hj
    exact left j (Finset.mem_filter.1 hj).2
  · intro y _
    apply Fin.ext
    simp only [perm_perm, row]
    omega
  · intro j hj
    exact (congrArg f (left j (Finset.mem_filter.1 hj).2)).symm

section Device

variable (x : FVec Ideal Cert.ReferenceIdeal.S4x1024x1024 .bf16) (wq : FVec Ideal Cert.ReferenceIdeal.S1024x4096 .bf16)
  (k v : FVec Ideal Cert.ReferenceIdeal.S4x1024x32x128 .bf16) (wo : FVec Ideal Cert.ReferenceIdeal.S4096x1024 .bf16)

/-- The score of two rows of sequence `b` by head `h`. -/
def scoreAt (b : Fin 4) (h : Fin 32) (i j : Fin 1024) : EReal :=
  (∑ d : Fin 128, queryR x wq (ix4 b i h d) * k (ix4 b j h d)) * scale

variable {x wq k}

/-- A score is real where the inputs it is made of are. -/
theorem scoreAt_real (hx : ∀ b i l, IsReal (x (ix3 b i l))) (hw : ∀ i l, IsReal (wq (ix2 i l)))
    (hk : ∀ b i h d, IsReal (k (ix4 b i h d))) (b : Fin 4) (h : Fin 32) (i j : Fin 1024) : IsReal (scoreAt x wq k b h i j) :=
  (IsReal.sum _ _ fun d => by
    rw [queryR_apply]
    exact (IsReal.sum _ _ fun l => (hx _ _ _).mul (hw _ _)).mul (hk _ _ _ _)).mul scale_real

/-- The reference's weighted values: only the rows of the query row's own residue count. -/
theorem ref_ctx (hx : ∀ b i l, IsReal (x (ix3 b i l))) (hw : ∀ i l, IsReal (wq (ix2 i l)))
    (hk : ∀ b i h d, IsReal (k (ix4 b i h d))) (b : Fin 4) (h : Fin 32) (i : Fin 1024) (d : Fin 128) (l : Fin 4096)
    (hh : l.val / 128 = h.val) (hd : l.val % 128 = d.val) :
    ctxR (weightR (expR (scoreR (queryR x wq) k))) v (ix3 b i l)
      = ∑ j ∈ Finset.univ.filter (fun j : Fin 1024 => j.val / 64 % 4 = i.val / 64 % 4),
          Ideal.div (Ideal.exp (scoreAt x wq k b h i j))
            (∑ j' ∈ Finset.univ.filter (fun j : Fin 1024 => j.val / 64 % 4 = i.val / 64 % 4), Ideal.exp (scoreAt x wq k b h i j'))
          * v (ix4 b j h d) := by
  have eh : (⟨l.val / 128, by omega⟩ : Fin 32) = h := Fin.ext hh
  have ed : (⟨l.val % 128, by omega⟩ : Fin 128) = d := Fin.ext hd
  choose a ha using fun j => scoreAt_real hx hw hk b h i j
  have hs : ∀ j, scoreR (queryR x wq) k (ix4 b h i j)
      = if j.val / 64 % 4 = i.val / 64 % 4 then ((a j : ℝ) : EReal) else ⊥ := fun j => by
    rw [scoreR_apply, maskR_apply, ← ha j]
    by_cases hp : j.val / 64 % 4 = i.val / 64 % 4
    · simp only [if_pos hp]; rfl
    · simp only [if_neg hp]; rfl
  have hw : ∀ j, weightR (expR (scoreR (queryR x wq) k)) (ix4 b h i j)
      = if j.val / 64 % 4 = i.val / 64 % 4 then Ideal.div (Ideal.exp (a j))
          (∑ j' ∈ Finset.univ.filter (fun j : Fin 1024 => j.val / 64 % 4 = i.val / 64 % 4), Ideal.exp (a j')) else 0 := fun j => by
    rw [weightR_apply _ _ _ _ _ (keepR_apply i)]
    simp only [expR_apply]
    exact weight_eq a (fun j : Fin 1024 => j.val / 64 % 4 = i.val / 64 % 4) i rfl (fun j => scoreR (queryR x wq) k (ix4 b h i j)) hs j
  rw [ctxR_apply, eh, ed, Finset.sum_filter]
  refine Finset.sum_congr rfl fun j _ => ?_
  rw [hw j]
  simp only [ha]
  by_cases hp : j.val / 64 % 4 = i.val / 64 % 4
  · rw [if_pos hp, if_pos hp, mul_comm]
  · rw [if_neg hp, if_neg hp, mul_zero]

variable {v wo}
variable {A B : Dev Cert.KernelIdeal.nD → Vec Ideal Cert.KernelIdeal.S1024x1024 .bf16} {X : Vec Ideal Cert.KernelIdeal.S1x1024x1024 .bf16}
  {K V : Vec Ideal Cert.KernelIdeal.S4x1024x1024 .bf16} {c : Fin 4}

/-- The kernel's queries are the reference's, the rows reordered. -/
theorem ker_query (hX : ∀ i l, X (ix3 0 i l) = x (ix3 c i l))
    (hA : ∀ (g : Fin 4) (r l : Fin 1024), A g (ix2 r l) = wq (ix2 r ⟨1024 * g.val + l.val, by omega⟩))
    (g : Fin 4) (n : Fin 8) (r : Fin 1024) (d : Fin 128) :
    qV (xpV X) (A g) (ix2 r (col n d)) = queryR x wq (ix4 c (perm r) ⟨8 * g.val + n.val, by omega⟩ d) := by
  rw [qV_apply, queryR_apply]
  refine Finset.sum_congr rfl fun l _ => ?_
  rw [hA]
  exact congrArg₂ (· * ·) (hX (perm r) l) (congrArg (fun z => wq (ix2 l z)) (Fin.ext (by simp only [col]; omega)))

/-- One group's attention is the reference's, at the group's heads. -/
theorem ker_ctx (hx : ∀ b i l, IsReal (x (ix3 b i l))) (hw : ∀ i l, IsReal (wq (ix2 i l)))
    (hk : ∀ b i h d, IsReal (k (ix4 b i h d))) (hX : ∀ i l, X (ix3 0 i l) = x (ix3 c i l))
    (hA : ∀ (g : Fin 4) (r l : Fin 1024), A g (ix2 r l) = wq (ix2 r ⟨1024 * g.val + l.val, by omega⟩))
    (hK : ∀ (g : Fin 4) (r l : Fin 1024), K (ix3 g r l) = k (ix4 c (perm r) ⟨8 * g.val + l.val / 128, by omega⟩ ⟨l.val % 128, by omega⟩))
    (hV : ∀ (g : Fin 4) (r l : Fin 1024), V (ix3 g r l) = v (ix4 c (perm r) ⟨8 * g.val + l.val / 128, by omega⟩ ⟨l.val % 128, by omega⟩))
    (g : Fin 4) (i l : Fin 1024) :
    ctxG A X K V g (ix2 (perm i) l)
      = ctxR (weightR (expR (scoreR (queryR x wq) k))) v (ix3 c i ⟨1024 * g.val + l.val, by omega⟩) := by
  obtain ⟨n, d, rfl⟩ : ∃ (n : Fin 8) (d : Fin 128), l = col n d :=
    ⟨⟨l.val / 128, by omega⟩, ⟨l.val % 128, by omega⟩, Fin.ext (by simp only [col]; omega)⟩
  have hkv : ∀ (u : FVec Ideal Cert.ReferenceIdeal.S4x1024x32x128 .bf16) (U : Vec Ideal Cert.KernelIdeal.S4x1024x1024 .bf16)
      (_ : ∀ (g : Fin 4) (r l : Fin 1024), U (ix3 g r l) = u (ix4 c (perm r) ⟨8 * g.val + l.val / 128, by omega⟩ ⟨l.val % 128, by omega⟩))
      (r : Fin 1024) (a : Fin 128), groupV U g (ix2 r (col n a)) = u (ix4 c (perm r) ⟨8 * g.val + n.val, by omega⟩ a) := by
    intro u U hU r a
    refine (hU g r (col n a)).trans ?_
    exact congrArg₂ (fun y z => u (ix4 c (perm r) y z)) (Fin.ext (by simp only [col]; omega)) (Fin.ext (by simp only [col]; omega))
  have hsc : ∀ (r j : Fin 1024), (∑ a : Fin 128, qV (xpV X) (A g) (ix2 r (col n a)) * groupV K g (ix2 j (col n a))) * scale
      = scoreAt x wq k c ⟨8 * g.val + n.val, by omega⟩ (perm r) (perm j) := fun r j => by
    unfold scoreAt
    simp only [ker_query hX hA, hkv k K hK]
  rw [ref_ctx v hx hw hk c ⟨8 * g.val + n.val, by omega⟩ i d _ (by simp only [col]; omega) (by simp only [col]; omega)]
  have hs := fun f => sum_set ⟨i.val / 64 % 4, by omega⟩ f
  simp only at hs
  rw [hs, hs]
  unfold ctxG
  have hr := perm_row ⟨i.val / 64 % 4, by omega⟩ i rfl
  rw [← hr, ctxV_apply]
  unfold wAt
  simp only [hsc, hkv v V hV]
  rw [hr, perm_perm]

/-- The kernel's result on a device. -/
theorem ker_eq_ref (hx : ∀ b i l, IsReal (x (ix3 b i l))) (hw : ∀ i l, IsReal (wq (ix2 i l)))
    (hk : ∀ b i h d, IsReal (k (ix4 b i h d))) (hX : ∀ i l, X (ix3 0 i l) = x (ix3 c i l))
    (hA : ∀ (g : Fin 4) (r l : Fin 1024), A g (ix2 r l) = wq (ix2 r ⟨1024 * g.val + l.val, by omega⟩))
    (hB : ∀ (g : Fin 4) (r l : Fin 1024), B g (ix2 r l) = wo (ix2 ⟨1024 * g.val + r.val, by omega⟩ l))
    (hK : ∀ (g : Fin 4) (r l : Fin 1024), K (ix3 g r l) = k (ix4 c (perm r) ⟨8 * g.val + l.val / 128, by omega⟩ ⟨l.val % 128, by omega⟩))
    (hV : ∀ (g : Fin 4) (r l : Fin 1024), V (ix3 g r l) = v (ix4 c (perm r) ⟨8 * g.val + l.val / 128, by omega⟩ ⟨l.val % 128, by omega⟩))
    (i l : Fin 1024) :
    resV A B X K V c (ix3 0 i l)
      = projR (ctxR (weightR (expR (scoreR (queryR x wq) k))) v) wo (ix3 c i l) := by
  rw [resV_apply, projR_apply, Fin.sum_univ_tiles 4 1024 rfl]
  refine Finset.sum_congr rfl fun g _ => ?_
  rw [projG_apply]
  refine Finset.sum_congr rfl fun r _ => ?_
  rw [ker_ctx hx hw hk hX hA hK hV, hB]
  simp only [Nat.mul_comm]

end Device

end Cert.KernelIdeal.Ring
-- ==== Proof.Value.Algebraic.lean ====
/- Both programs run, the kernel's result on each device being its sequence of the reference's. -/
module

public import proofs.«01_k».proof.Defs
public import proofs.«01_k».proof.Proof.Gen.KernelIdeal
public import proofs.«01_k».proof.Proof.Gen.ReferenceIdeal
public import proofs.«01_k».proof.Proof.Ring.Launch
public import proofs.«01_k».proof.Proof.Value.Host
public import proofs.«01_k».proof.Proof.Value.Equation
public import Idealize.ShloMosaic.Lib.LayoutAt

@[expose] public section

noncomputable section

namespace Cert.Proof

open Idealize.ShloMosaic Idealize.ShloMosaic.TcCoe Idealize.SL.Sem
open Cert.KernelIdeal.Ring

/-- A number whose absolute value compares below infinity is real. -/
theorem isReal_of_abs (x : EReal) (h : FloatOps.cmpf (F := Ideal) (φ := .bf16) .olt (max x (-x)) (Ideal.ofBits .bf16 0x7F80#16) = 1#1) :
    IsReal x := by
  have ht : Ideal.ofBits .bf16 0x7F80#16 = ⊤ := by simp [Ideal.ofBits, Ideal.ieee]
  rw [ht] at h
  have hlt : max x (-x) < ⊤ := by
    by_contra hn
    revert h
    simp [FloatOps.cmpf, Ideal.cmp, hn]
  induction x with
  | bot => exact absurd hlt (by simp)
  | top => exact absurd hlt (by simp)
  | coe r => exact ⟨r, rfl⟩

/-- What the precondition says of a device's blocks. -/
theorem pre_real [hPre : Cert.Pre_finite_KernelIdeal.Facts]
    (m : (ℓ : Loc Cert.KernelIdeal.nD Cert.KernelIdeal.τ Cert.KernelIdeal.sig) → Buf (Elt Ideal) ℓ)
    (h : Cert.Pre_KernelIdeal_finite_KernelIdeal m) (c : Dev Cert.KernelIdeal.nD) :
    (∀ ix, IsReal ((m (c.tc.loc Cert.KernelIdeal.main_arg0) : FVec Ideal Cert.KernelIdeal.S1x1024x1024 .bf16) ix))
    ∧ (∀ ix, IsReal ((m (c.tc.loc Cert.KernelIdeal.main_arg1) : FVec Ideal Cert.KernelIdeal.S1024x1024 .bf16) ix))
    ∧ (∀ ix, IsReal ((m (c.tc.loc Cert.KernelIdeal.main_arg2) : FVec Ideal Cert.KernelIdeal.S4x1024x32x128 .bf16) ix)) := by
  obtain ⟨h0, h1, h2⟩ := h c
  exact ⟨fun ix => isReal_of_abs _ (congrFun h0 ix), fun ix => isReal_of_abs _ (congrFun h1 ix), fun ix => isReal_of_abs _ (congrFun h2 ix)⟩

/-- A device's sequence, at an index of the whole array. -/
theorem block_seq (c : Fin 4) (v : (⟨3, ![4, 1024, 1024]⟩ : Shape).Idx → EReal) (i l : Fin 1024) :
    Layout.block ⟨3, ![1, 1024, 1024]⟩ ⟨3, ![4, 1024, 1024]⟩ 0 4 c v (by decide) (ix3 0 i l) = v (ix3 c i l) := by
  shard_ext

/-- A device's columns of the query weights. -/
theorem block_cols (c : Fin 4) (v : (⟨2, ![1024, 4096]⟩ : Shape).Idx → EReal) (i l : Fin 1024) :
    Layout.block ⟨2, ![1024, 1024]⟩ ⟨2, ![1024, 4096]⟩ 1 4 c v (by decide) (ix2 i l) = v (ix2 i ⟨1024 * c.val + l.val, by omega⟩) := by
  shard_ext

/-- A device's rows of the output weights. -/
theorem block_rows (c : Fin 4) (v : (⟨2, ![4096, 1024]⟩ : Shape).Idx → EReal) (i l : Fin 1024) :
    Layout.block ⟨2, ![1024, 1024]⟩ ⟨2, ![4096, 1024]⟩ 0 4 c v (by decide) (ix2 i l) = v (ix2 ⟨1024 * c.val + i.val, by omega⟩ l) := by
  shard_ext

/-- From blocks of one set of arrays, the kernel's result on a device is its block of the reference's. -/
theorem result_eq [hPre : Cert.Pre_finite_KernelIdeal.Facts]
    (m : (ℓ : Loc Cert.KernelIdeal.nD Cert.KernelIdeal.τ Cert.KernelIdeal.sig) → Buf (Elt Ideal) ℓ)
    (h : Cert.Pre_KernelIdeal_finite_KernelIdeal m)
    (x : FVec Ideal Cert.ReferenceIdeal.S4x1024x1024 .bf16) (wq : FVec Ideal Cert.ReferenceIdeal.S1024x4096 .bf16)
    (k v : FVec Ideal Cert.ReferenceIdeal.S4x1024x32x128 .bf16) (wo : FVec Ideal Cert.ReferenceIdeal.S4096x1024 .bf16)
    (hx : ∀ c : Dev Cert.KernelIdeal.nD, m (c.tc.loc Cert.KernelIdeal.main_arg0) = Layout.block ⟨3, ![1, 1024, 1024]⟩ ⟨3, ![4, 1024, 1024]⟩ 0 4 c x)
    (hq : ∀ c : Dev Cert.KernelIdeal.nD, m (c.tc.loc Cert.KernelIdeal.main_arg1) = Layout.block ⟨2, ![1024, 1024]⟩ ⟨2, ![1024, 4096]⟩ 1 4 c wq)
    (hk : ∀ c : Dev Cert.KernelIdeal.nD, m (c.tc.loc Cert.KernelIdeal.main_arg2) = k)
    (hv : ∀ c : Dev Cert.KernelIdeal.nD, m (c.tc.loc Cert.KernelIdeal.main_arg3) = v)
    (ho : ∀ c : Dev Cert.KernelIdeal.nD, m (c.tc.loc Cert.KernelIdeal.main_arg4) = Layout.block ⟨2, ![1024, 1024]⟩ ⟨2, ![4096, 1024]⟩ 0 4 c wo)
    (c : Dev Cert.KernelIdeal.nD) :
    resW (Cert.KernelIdeal.Gen.V4 m) c
      = Layout.block ⟨3, ![1, 1024, 1024]⟩ ⟨3, ![4, 1024, 1024]⟩ 0 4 c
          (Cert.ReferenceIdeal.Stages.projR (Cert.ReferenceIdeal.Stages.ctxR (Cert.ReferenceIdeal.Stages.weightR
            (Cert.ReferenceIdeal.Stages.expR (Cert.ReferenceIdeal.Stages.scoreR (Cert.ReferenceIdeal.Stages.queryR x wq) k))) v) wo) := by
  have rx : ∀ b i l, IsReal (x (ix3 b i l)) := fun b i l => by
    have e := (pre_real m h b).1 (ix3 0 i l)
    rwa [hx b, block_seq] at e
  have rq : ∀ i l, IsReal (wq (ix2 i l)) := fun i l => by
    have hl : (⟨1024 * (l.val / 1024) + l.val % 1024, by omega⟩ : Fin 4096) = l := Fin.ext (by simp only; omega)
    have e := (pre_real m h (⟨l.val / 1024, by omega⟩ : Fin 4)).2.1 (ix2 i ⟨l.val % 1024, by omega⟩)
    rw [hq, block_cols] at e
    simp only [hl] at e
    exact e
  have rk : ∀ b i h d, IsReal (k (ix4 b i h d)) := fun b i n d => by
    have e := (pre_real m h 0).2.2 (ix4 b i n d)
    rwa [hk 0] at e
  have hX : ∀ i l, xW (Cert.KernelIdeal.Gen.V4 m) c (ix3 0 i l) = x (ix3 c i l) := fun i l => by
    have e : xW (Cert.KernelIdeal.Gen.V4 m) c = m (c.tc.loc Cert.KernelIdeal.main_arg0) :=
      V4_eq_of m c Cert.KernelIdeal.main_arg0 (by decide) (by decide) (by decide) (by decide)
    rw [e, hx c, block_seq]
  have hA : ∀ (g : Dev Cert.KernelIdeal.nD) (r l : Fin 1024), qW (Cert.KernelIdeal.Gen.V4 m) g (ix2 r l) = wq (ix2 r ⟨1024 * g.val + l.val, by have := g.isLt; change g.val < 4 at this; omega⟩) :=
    fun g r l => by
      have e : qW (Cert.KernelIdeal.Gen.V4 m) g = m (g.tc.loc Cert.KernelIdeal.main_arg1) :=
        V4_eq_of m g Cert.KernelIdeal.main_arg1 (by decide) (by decide) (by decide) (by decide)
      rw [e, hq g, block_cols]
  have hB : ∀ (g : Dev Cert.KernelIdeal.nD) (r l : Fin 1024), oW (Cert.KernelIdeal.Gen.V4 m) g (ix2 r l) = wo (ix2 ⟨1024 * g.val + r.val, by have := g.isLt; change g.val < 4 at this; omega⟩ l) :=
    fun g r l => by
      have e : oW (Cert.KernelIdeal.Gen.V4 m) g = m (g.tc.loc Cert.KernelIdeal.main_arg4) :=
        V4_eq_of m g Cert.KernelIdeal.main_arg4 (by decide) (by decide) (by decide) (by decide)
      rw [e, ho g, block_rows]
  have hK : ∀ (g : Fin 4) (r l : Fin 1024), kW (Cert.KernelIdeal.Gen.V4 m) c (ix3 g r l)
      = k (ix4 c (perm r) ⟨8 * g.val + l.val / 128, by omega⟩ ⟨l.val % 128, by omega⟩) := fun g r l =>
    (V4_keys m c g r l).trans (congrFun (hk c) _)
  have hV : ∀ (g : Fin 4) (r l : Fin 1024), vW (Cert.KernelIdeal.Gen.V4 m) c (ix3 g r l)
      = v (ix4 c (perm r) ⟨8 * g.val + l.val / 128, by omega⟩ ⟨l.val % 128, by omega⟩) := fun g r l =>
    (V4_vals m c g r l).trans (congrFun (hv c) _)
  show resV (qW (Cert.KernelIdeal.Gen.V4 m)) (oW (Cert.KernelIdeal.Gen.V4 m)) (xW (Cert.KernelIdeal.Gen.V4 m) c)
    (kW (Cert.KernelIdeal.Gen.V4 m) c) (vW (Cert.KernelIdeal.Gen.V4 m) c) c = _
  generalize qW (Cert.KernelIdeal.Gen.V4 m) = A at *
  generalize oW (Cert.KernelIdeal.Gen.V4 m) = B at *
  generalize xW (Cert.KernelIdeal.Gen.V4 m) c = X at *
  generalize kW (Cert.KernelIdeal.Gen.V4 m) c = K at *
  generalize vW (Cert.KernelIdeal.Gen.V4 m) c = V at *
  funext ix
  obtain ⟨i, l, rfl⟩ : ∃ i l : Fin 1024, ix = ix3 0 i l :=
    ⟨ix 1, ix 2, (eq_ix3 ix).trans (congrArg (fun z => ix3 z (ix 1) (ix 2)) (Subsingleton.elim (α := Fin 1) _ _))⟩
  exact (ker_eq_ref rx rq rk hX hA hB hK hV i l).trans (block_seq c _ i l).symm

/-- The kernel against the plain mathematics, over the extended reals. -/
theorem algebraic [hPre : Cert.Pre_finite_KernelIdeal.Facts] : Cert.algebraic_KernelIdeal_ReferenceIdeal_pre_finite_KernelIdeal := by
  intro m g m' g' hpre hblk
  refine ⟨Cert.ReferenceIdeal.Value.res_main_v45 (F := Ideal) m' 0, ?_, ?_⟩
  · refine (θ_run Cert.KernelIdeal.defs _ _).mono (fun q h c => ⟨(h.1 c).2.trans ?_, (h.1 c).1⟩) (run_main (F := Ideal) g m)
    rw [Cert.ReferenceIdeal.Stages.res_eq]
    exact result_eq m hpre _ _ _ _ _ (fun c => (hblk c).1) (fun c => (hblk c).2.1) (fun c => (hblk c).2.2.1) (fun c => (hblk c).2.2.2.1)
      (fun c => (hblk c).2.2.2.2) c
  · exact (θ_run Cert.ReferenceIdeal.defs _ _).mono (fun q h => h 0) (Cert.ReferenceIdeal.Value.run (F := Ideal) m' g')

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The shapes the precondition's broadcasts relate, on one device's blocks. -/
theorem pre_facts : Cert.Pre_finite_KernelIdeal.Facts := ⟨by decide, by decide, by decide⟩

/-- And on the whole arrays. -/
theorem pre_facts_whole : Cert.Pre_finite_ReferenceIdeal.Facts := ⟨by decide, by decide, by decide⟩

/-- Everything claimed. -/
theorem claim : Cert.Claim :=
  ⟨Cert.Kernel.Gen.facts, Cert.KernelIdeal.Gen.facts, Cert.ReferenceIdeal.Gen.facts, pre_facts, pre_facts_whole,
    frame_kernel, frame_ideal, fun m ρ _ => frame_ideal m ρ trivial, frame_reference, fun m ρ _ => frame_reference m ρ trivial, trivial,
    algebraic (hPre := pre_facts)⟩

end Cert.Proof

end
